-- ==== Defs.lean ====
def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_named [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_rows_finite [hPre_rows_finite : Cert.Pre_rows_finite.Facts] (m : (ℓ : Loc Cert.RetIdeal.nD Cert.RetIdeal.τ Cert.RetIdeal.sig) → Buf (Elt Ideal) ℓ) : Prop :=
  ∀ c : Dev Cert.RetIdeal.nD,
    (Cert.Pre_rows_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_rows_finite [hPre_rows_finite : Cert.Pre_rows_finite.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_rows_finite.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2))) = (fun _ => 1#1)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2)
      ∧ r.2.mem ((c.tc : Thread Cert.OutC.nD Cert.OutC.τ).loc Cert.OutC.main_arg3) = m ((c.tc : Thread Cert.OutC.nD Cert.OutC.τ).loc Cert.OutC.main_arg3)
      ∧ r.2.mem ((c.tc : Thread Cert.OutC.nD Cert.OutC.τ).loc Cert.OutC.main_arg4) = m ((c.tc : Thread Cert.OutC.nD Cert.OutC.τ).loc Cert.OutC.main_arg4))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
      ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2)
      ∧ r.2.mem ((c.tc : Thread Cert.OutCRefIdeal.nD Cert.OutCRefIdeal.τ).loc Cert.OutCRefIdeal.main_arg3) = m ((c.tc : Thread Cert.OutCRefIdeal.nD Cert.OutCRefIdeal.τ).loc Cert.OutCRefIdeal.main_arg3)
      ∧ r.2.mem ((c.tc : Thread Cert.OutCRefIdeal.nD Cert.OutCRefIdeal.τ).loc Cert.OutCRefIdeal.main_arg4) = m ((c.tc : Thread Cert.OutCRefIdeal.nD Cert.OutCRefIdeal.τ).loc Cert.OutCRefIdeal.main_arg4))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_experts_named [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_named m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetIdeal_pre_rows_finite [hRetIdeal : Cert.RetIdeal.Facts] [hPre_rows_finite : Cert.Pre_rows_finite.Facts] : Prop :=
  ∀ (m : (ℓ : Loc Cert.RetIdeal.nD Cert.RetIdeal.τ Cert.RetIdeal.sig) → Buf (Elt Ideal) ℓ) (g : Dev Cert.RetIdeal.nD → PrngReg), Pre_RetIdeal_rows_finite m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_RetRefIdeal_pre_rows_finite [hRetRefIdeal : Cert.RetRefIdeal.Facts] [hPre_rows_finite : Cert.Pre_rows_finite.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_rows_finite m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)) →
    ∃ (v0 : (c : Dev Cert.ProjCIdeal.nD) → Buf (Elt Ideal) ((c.tc : Thread Cert.ProjCIdeal.nD Cert.ProjCIdeal.τ).loc Cert.ProjCIdeal.main_v2)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v2) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v0) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v3)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v3) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v1) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v38_0)) (v1 : (c : Dev Cert.ProjAIdeal.nD) → Buf (Elt Ideal) ((c.tc : Thread Cert.ProjAIdeal.nD Cert.ProjAIdeal.τ).loc Cert.ProjAIdeal.main_v38_1)) (v2 : (c : Dev Cert.ProjAIdeal.nD) → Buf (Elt Ideal) ((c.tc : Thread Cert.ProjAIdeal.nD Cert.ProjAIdeal.τ).loc Cert.ProjAIdeal.main_v38_2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v38_0) = v0 c
          ∧ r.2.mem ((c.tc : Thread Cert.ProjAIdeal.nD Cert.ProjAIdeal.τ).loc Cert.ProjAIdeal.main_v38_1) = v1 c
          ∧ r.2.mem ((c.tc : Thread Cert.ProjAIdeal.nD Cert.ProjAIdeal.τ).loc Cert.ProjAIdeal.main_v38_2) = v2 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v73) = v0 c
          ∧ r.2.mem ((c.tc : Thread Cert.ProjARefIdeal.nD Cert.ProjARefIdeal.τ).loc Cert.ProjARefIdeal.main_v75) = v1 c
          ∧ r.2.mem ((c.tc : Thread Cert.ProjARefIdeal.nD Cert.ProjARefIdeal.τ).loc Cert.ProjARefIdeal.main_v77) = v2 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_v29) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)
      ∧ m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2)
      ∧ m' ((c.tc : Thread Cert.OutCRefIdeal.nD Cert.OutCRefIdeal.τ).loc Cert.OutCRefIdeal.main_arg3) = m ((c.tc : Thread Cert.OutCIdeal.nD Cert.OutCIdeal.τ).loc Cert.OutCIdeal.main_arg3)
      ∧ m' ((c.tc : Thread Cert.OutCRefIdeal.nD Cert.OutCRefIdeal.τ).loc Cert.OutCRefIdeal.main_arg4) = m ((c.tc : Thread Cert.OutCIdeal.nD Cert.OutCIdeal.τ).loc Cert.OutCIdeal.main_arg4)) →
    ∃ (v0 : (c : Dev Cert.OutCIdeal.nD) → Buf (Elt Ideal) ((c.tc : Thread Cert.OutCIdeal.nD Cert.OutCIdeal.τ).loc Cert.OutCIdeal.main_v3_0)) (v1 : (c : Dev Cert.OutCIdeal.nD) → Buf (Elt Ideal) ((c.tc : Thread Cert.OutCIdeal.nD Cert.OutCIdeal.τ).loc Cert.OutCIdeal.main_v3_1)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v3_0) = v0 c
          ∧ r.2.mem ((c.tc : Thread Cert.OutCIdeal.nD Cert.OutCIdeal.τ).loc Cert.OutCIdeal.main_v3_1) = v1 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
          ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
          ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v28) = v0 c
          ∧ r.2.mem ((c.tc : Thread Cert.OutCRefIdeal.nD Cert.OutCRefIdeal.τ).loc Cert.OutCRefIdeal.main_v29) = v1 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1)
          ∧ r.2.mem ((c.tc : Thread Cert.OutCRefIdeal.nD Cert.OutCRefIdeal.τ).loc Cert.OutCRefIdeal.main_arg2) = m' ((c.tc : Thread Cert.OutCRefIdeal.nD Cert.OutCRefIdeal.τ).loc Cert.OutCRefIdeal.main_arg2)
          ∧ r.2.mem ((c.tc : Thread Cert.OutCRefIdeal.nD Cert.OutCRefIdeal.τ).loc Cert.OutCRefIdeal.main_arg3) = m' ((c.tc : Thread Cert.OutCRefIdeal.nD Cert.OutCRefIdeal.τ).loc Cert.OutCRefIdeal.main_arg3)
          ∧ r.2.mem ((c.tc : Thread Cert.OutCRefIdeal.nD Cert.OutCRefIdeal.τ).loc Cert.OutCRefIdeal.main_arg4) = m' ((c.tc : Thread Cert.OutCRefIdeal.nD Cert.OutCRefIdeal.τ).loc Cert.OutCRefIdeal.main_arg4))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v2) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v3) = v0 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v2) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v2_0)) (v1 : (c : Dev Cert.CombineIdeal.nD) → Buf (Elt Ideal) ((c.tc : Thread Cert.CombineIdeal.nD Cert.CombineIdeal.τ).loc Cert.CombineIdeal.main_v2_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2_0) = v0 c
          ∧ r.2.mem ((c.tc : Thread Cert.CombineIdeal.nD Cert.CombineIdeal.τ).loc Cert.CombineIdeal.main_v2_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v33) = v0 c
          ∧ r.2.mem ((c.tc : Thread Cert.CombineRefIdeal.nD Cert.CombineRefIdeal.τ).loc Cert.CombineRefIdeal.main_v34) = v1 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v28) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Ret_RetIdeal : Prop :=
  True

def algebraic_RetIdeal_RetRefIdeal_pre_rows_finite [hRetIdeal : Cert.RetIdeal.Facts] [hRetRefIdeal : Cert.RetRefIdeal.Facts] [hPre_rows_finite : Cert.Pre_rows_finite.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_rows_finite m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v28)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v28) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v125) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def Claim : Prop :=
  ∃ (hProjC : Cert.ProjC.Facts) (hProjCIdeal : Cert.ProjCIdeal.Facts) (hProjCRefIdeal : Cert.ProjCRefIdeal.Facts) (hProjB : Cert.ProjB.Facts) (hProjBIdeal : Cert.ProjBIdeal.Facts) (hProjBRefIdeal : Cert.ProjBRefIdeal.Facts) (hProjA : Cert.ProjA.Facts) (hProjAIdeal : Cert.ProjAIdeal.Facts) (hProjARefIdeal : Cert.ProjARefIdeal.Facts) (hOut : Cert.Out.Facts) (hOutIdeal : Cert.OutIdeal.Facts) (hOutRefIdeal : Cert.OutRefIdeal.Facts) (hOutC : Cert.OutC.Facts) (hOutCIdeal : Cert.OutCIdeal.Facts) (hOutCRefIdeal : Cert.OutCRefIdeal.Facts) (hRoute : Cert.Route.Facts) (hRouteIdeal : Cert.RouteIdeal.Facts) (hRouteRefIdeal : Cert.RouteRefIdeal.Facts) (hGates : Cert.Gates.Facts) (hGatesIdeal : Cert.GatesIdeal.Facts) (hGatesRefIdeal : Cert.GatesRefIdeal.Facts) (hCombine : Cert.Combine.Facts) (hCombineIdeal : Cert.CombineIdeal.Facts) (hCombineRefIdeal : Cert.CombineRefIdeal.Facts) (hExperts : Cert.Experts.Facts) (hExpertsIdeal : Cert.ExpertsIdeal.Facts) (hExpertsRefIdeal : Cert.ExpertsRefIdeal.Facts) (hRet : Cert.Ret.Facts) (hRetIdeal : Cert.RetIdeal.Facts) (hRetRefIdeal : Cert.RetRefIdeal.Facts) (hPre_experts_named : Cert.Pre_experts_named.Facts) (hPre_rows_finite : Cert.Pre_rows_finite.Facts),
    quiescent_ProjC (hProjC := hProjC)
    ∧ quiescent_ProjCIdeal (hProjCIdeal := hProjCIdeal)
    ∧ quiescent_ProjCRefIdeal (hProjCRefIdeal := hProjCRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjA (hProjA := hProjA)
    ∧ quiescent_ProjAIdeal (hProjAIdeal := hProjAIdeal)
    ∧ quiescent_ProjARefIdeal (hProjARefIdeal := hProjARefIdeal)
    ∧ quiescent_Out (hOut := hOut)
    ∧ quiescent_OutIdeal (hOutIdeal := hOutIdeal)
    ∧ quiescent_OutRefIdeal (hOutRefIdeal := hOutRefIdeal)
    ∧ quiescent_OutC (hOutC := hOutC)
    ∧ quiescent_OutCIdeal (hOutCIdeal := hOutCIdeal)
    ∧ quiescent_OutCRefIdeal (hOutCRefIdeal := hOutCRefIdeal)
    ∧ quiescent_Route (hRoute := hRoute)
    ∧ quiescent_RouteIdeal (hRouteIdeal := hRouteIdeal)
    ∧ quiescent_RouteRefIdeal (hRouteRefIdeal := hRouteRefIdeal)
    ∧ quiescent_Gates (hGates := hGates)
    ∧ quiescent_GatesIdeal (hGatesIdeal := hGatesIdeal)
    ∧ quiescent_GatesRefIdeal (hGatesRefIdeal := hGatesRefIdeal)
    ∧ quiescent_Combine (hCombine := hCombine)
    ∧ quiescent_CombineIdeal (hCombineIdeal := hCombineIdeal)
    ∧ quiescent_CombineRefIdeal (hCombineRefIdeal := hCombineRefIdeal)
    ∧ quiescent_Experts (hExperts := hExperts) (hPre_experts_named := hPre_experts_named)
    ∧ quiescent_ExpertsIdeal (hExpertsIdeal := hExpertsIdeal) (hPre_experts_named := hPre_experts_named)
    ∧ quiescent_ExpertsRefIdeal (hExpertsRefIdeal := hExpertsRefIdeal)
    ∧ quiescent_ExpertsRefIdeal_pre_experts_named (hExpertsRefIdeal := hExpertsRefIdeal) (hPre_experts_named := hPre_experts_named)
    ∧ quiescent_Ret (hRet := hRet)
    ∧ quiescent_RetIdeal (hRetIdeal := hRetIdeal)
    ∧ quiescent_RetIdeal_pre_rows_finite (hRetIdeal := hRetIdeal) (hPre_rows_finite := hPre_rows_finite)
    ∧ quiescent_RetRefIdeal (hRetRefIdeal := hRetRefIdeal)
    ∧ quiescent_RetRefIdeal_pre_rows_finite (hRetRefIdeal := hRetRefIdeal) (hPre_rows_finite := hPre_rows_finite)
    ∧ preserves_ProjC_ProjCIdeal
    ∧ algebraic_ProjCIdeal_ProjCRefIdeal (hProjCIdeal := hProjCIdeal) (hProjCRefIdeal := hProjCRefIdeal)
    ∧ preserves_ProjB_ProjBIdeal
    ∧ algebraic_ProjBIdeal_ProjBRefIdeal (hProjBIdeal := hProjBIdeal) (hProjBRefIdeal := hProjBRefIdeal)
    ∧ preserves_ProjA_ProjAIdeal
    ∧ algebraic_ProjAIdeal_ProjARefIdeal (hProjAIdeal := hProjAIdeal) (hProjARefIdeal := hProjARefIdeal)
    ∧ preserves_Out_OutIdeal
    ∧ algebraic_OutIdeal_OutRefIdeal (hOutIdeal := hOutIdeal) (hOutRefIdeal := hOutRefIdeal)
    ∧ preserves_OutC_OutCIdeal
    ∧ algebraic_OutCIdeal_OutCRefIdeal (hOutCIdeal := hOutCIdeal) (hOutCRefIdeal := hOutCRefIdeal)
    ∧ preserves_Route_RouteIdeal
    ∧ algebraic_RouteIdeal_RouteRefIdeal (hRouteIdeal := hRouteIdeal) (hRouteRefIdeal := hRouteRefIdeal)
    ∧ preserves_Gates_GatesIdeal
    ∧ algebraic_GatesIdeal_GatesRefIdeal (hGatesIdeal := hGatesIdeal) (hGatesRefIdeal := hGatesRefIdeal)
    ∧ preserves_Combine_CombineIdeal
    ∧ algebraic_CombineIdeal_CombineRefIdeal (hCombineIdeal := hCombineIdeal) (hCombineRefIdeal := hCombineRefIdeal)
    ∧ preserves_Experts_ExpertsIdeal
    ∧ algebraic_ExpertsIdeal_ExpertsRefIdeal (hExpertsIdeal := hExpertsIdeal) (hExpertsRefIdeal := hExpertsRefIdeal) (hPre_experts_named := hPre_experts_named)
    ∧ preserves_Ret_RetIdeal
    ∧ algebraic_RetIdeal_RetRefIdeal_pre_rows_finite (hRetIdeal := hRetIdeal) (hRetRefIdeal := hRetRefIdeal) (hPre_rows_finite := hPre_rows_finite)
-- ==== Pre_experts_named.lean ====
abbrev S320 : Shape := ⟨1, ![320]⟩
abbrev S81920x1024 : Shape := ⟨2, ![81920, 1024]⟩
abbrev S64x1024x256 : Shape := ⟨3, ![64, 1024, 256]⟩
abbrev S64x256x1024 : Shape := ⟨3, ![64, 256, 1024]⟩
abbrev S_ : Shape := ⟨0, ![]⟩

class Facts : Prop where
  bcast_S_S320 : S_.BroadcastsInDim S320 (![] : Fin 0 → Fin S320.rank)

variable [Facts]

def fn {F : FTy → Type} [FloatOps F] (main_arg0 : IVec S320 32) (main_arg1 : FVec F S81920x1024 .bf16) (main_arg2 : FVec F S64x1024x256 .f32) (main_arg3 : FVec F S64x1024x256 .f32) (main_arg4 : FVec F S64x256x1024 .f32) : IVec S320 1 :=
  let main_c : IVec S_ 32 := constantI S_ 32 0#32
  let main_v0 : IVec S320 32 := broadcastInDim S320 ![] bcast_S_S320 main_c
  let main_v1 : IVec S320 1 := cmpi .sge main_arg0 main_v0
  let main_c_0 : IVec S_ 32 := constantI S_ 32 64#32
  let main_v2 : IVec S320 32 := broadcastInDim S320 ![] bcast_S_S320 main_c_0
  let main_v3 : IVec S320 1 := cmpi .slt main_arg0 main_v2
  let main_v4 : IVec S320 1 := andi main_v1 main_v3
  main_v4
-- ==== Pre_rows_finite.lean ====
abbrev S32768x6144 : Shape := ⟨2, ![32768, 6144]⟩
abbrev S4096 : Shape := ⟨1, ![4096]⟩
abbrev S2048 : Shape := ⟨1, ![2048]⟩
abbrev S32768x4096 : Shape := ⟨2, ![32768, 4096]⟩
abbrev S_ : Shape := ⟨0, ![]⟩

class Facts : Prop where
  slices_S32768x6144_S32768x4096_0_0 : S32768x6144.Slices ![0, 0] S32768x4096
  bcast_S_S32768x4096 : S_.BroadcastsInDim S32768x4096 (![] : Fin 0 → Fin S32768x4096.rank)

variable [Facts]

def fn {F : FTy → Type} [FloatOps F] (main_arg0 : FVec F S32768x6144 .f32) (main_arg1 : IVec S4096 32) (main_arg2 : FVec F S2048 .f32) : IVec S32768x4096 1 :=
  let main_v0 : FVec F S32768x4096 .f32 := (extractStridedSlice S32768x4096 ![0, 0] · slices_S32768x6144_S32768x4096_0_0) main_arg0
  let main_v1 : FVec F S32768x4096 .f32 := Host.absf main_v0
  let main_cst : FVec F S_ .f32 := constant S_ .f32 0x7F800000#32
  let main_v2 : FVec F S32768x4096 .f32 := broadcastInDim S32768x4096 ![] bcast_S_S32768x4096 main_cst
  let main_v3 : IVec S32768x4096 1 := cmpf .olt main_v1 main_v2
  main_v3
-- ==== ProjC.lean ====
abbrev S32768x1024 : Shape := ⟨2, ![32768, 1024]⟩
abbrev S1024x6144 : Shape := ⟨2, ![1024, 6144]⟩
abbrev S32768x6144 : Shape := ⟨2, ![32768, 6144]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x6144, .f32⟩
  | .hbm, ⟨2, _⟩ => ⟨S32768x1024, .bf16⟩
  | .hbm, ⟨3, _⟩ => ⟨S1024x6144, .bf16⟩
  | .hbm, ⟨4, _⟩ => ⟨S32768x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjCRefIdeal.lean ====
abbrev S32768x1024 : Shape := ⟨2, ![32768, 1024]⟩
abbrev S1024x6144 : Shape := ⟨2, ![1024, 6144]⟩
abbrev S32768x6144 : Shape := ⟨2, ![32768, 6144]⟩

abbrev nBuf : Space → Nat
  | .hbm => 3
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6144, .f32⟩
  | .hbm, ⟨2, _⟩ => ⟨S32768x6144, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjB.lean ====
abbrev S32768x1024 : Shape := ⟨2, ![32768, 1024]⟩
abbrev S1024x3088 : Shape := ⟨2, ![1024, 3088]⟩
abbrev S1024x3072 : Shape := ⟨2, ![1024, 3072]⟩
abbrev S32768x3072 : Shape := ⟨2, ![32768, 3072]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x3088, .f32⟩
  | .hbm, ⟨2, _⟩ => ⟨S32768x1024, .bf16⟩
  | .hbm, ⟨3, _⟩ => ⟨S1024x3072, .f32⟩
  | .hbm, ⟨4, _⟩ => ⟨S1024x3072, .bf16⟩
  | .hbm, ⟨5, _⟩ => ⟨S32768x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBRefIdeal.lean ====
abbrev S32768x1024 : Shape := ⟨2, ![32768, 1024]⟩
abbrev S1024x3088 : Shape := ⟨2, ![1024, 3088]⟩
abbrev S32768x3088 : Shape := ⟨2, ![32768, 3088]⟩
abbrev S32768x3072 : Shape := ⟨2, ![32768, 3072]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3088, .f32⟩
  | .hbm, ⟨2, _⟩ => ⟨S32768x3088, .f32⟩
  | .hbm, ⟨3, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjA.lean ====
abbrev S32768x1024 : Shape := ⟨2, ![32768, 1024]⟩
abbrev S4096 : Shape := ⟨1, ![4096]⟩
abbrev S1024x3072 : Shape := ⟨2, ![1024, 3072]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S8x8x4096x128 : Shape := ⟨4, ![8, 8, 4096, 128]⟩
abbrev S512x1024 : Shape := ⟨2, ![512, 1024]⟩
abbrev S512x256 : Shape := ⟨2, ![512, 256]⟩
abbrev S1x8x512x128 : Shape := ⟨4, ![1, 8, 512, 128]⟩
abbrev S1024x256 : Shape := ⟨2, ![1024, 256]⟩
abbrev S512x128 : Shape := ⟨2, ![512, 128]⟩
abbrev S1x1x512x128 : Shape := ⟨4, ![1, 1, 512, 128]⟩

abbrev nBuf : Space → Nat
  | .hbm => 52
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S4096, .i32⟩
  | .hbm, ⟨2, _⟩ => ⟨S1024x3072, .f32⟩
  | .hbm, ⟨3, _⟩ => ⟨S32768x1024, .bf16⟩
  | .hbm, ⟨4, _⟩ => ⟨S1024x3072, .bf16⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4096, .f32⟩
  | .hbm, ⟨20, _⟩ => ⟨S4096x1, .f32⟩
  | .hbm, ⟨21, _⟩ => ⟨S1x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x48, .f32⟩
  | .hbm, ⟨29, _⟩ => ⟨S_, .f32⟩
  | .hbm, ⟨30, _⟩ => ⟨S4096x48, .f32⟩
  | .hbm, ⟨31, _⟩ => ⟨S4096x48, .f32⟩
  | .hbm, ⟨32, _⟩ => ⟨S4096x64, .f32⟩
  | .hbm, ⟨33, _⟩ => ⟨S4096x8, .f32⟩
  | .hbm, ⟨34, _⟩ => ⟨S_, .f32⟩
  | .hbm, ⟨35, _⟩ => ⟨S4096x8, .f32⟩
  | .hbm, ⟨36, _⟩ => ⟨S4096x64, .f32⟩
  | .hbm, ⟨37, _⟩ => ⟨S_, .f32⟩
  | .hbm, ⟨38, _⟩ => ⟨S4096x8, .f32⟩
  | .hbm, ⟨39, _⟩ => ⟨S4096x64, .f32⟩
  | .hbm, ⟨40, _⟩ => ⟨S1x4096x1x64, .f32⟩
  | .hbm, ⟨41, _⟩ => ⟨S1x4096x4x64, .f32⟩
  | .hbm, ⟨42, _⟩ => ⟨S4096x256, .f32⟩
  | .hbm, ⟨43, _⟩ => ⟨S1x4096x1x64, .f32⟩
  | .hbm, ⟨44, _⟩ => ⟨S1x4096x4x64, .f32⟩
  | .hbm, ⟨45, _⟩ => ⟨S4096x256, .f32⟩
  | .hbm, ⟨46, _⟩ => ⟨S1x4096x1x64, .f32⟩
  | .hbm, ⟨47, _⟩ => ⟨S1x4096x4x64, .f32⟩
  | .hbm, ⟨48, _⟩ => ⟨S4096x256, .f32⟩
  | .hbm, ⟨49, _⟩ => ⟨S8x8x4096x128, .f32⟩
  | .hbm, ⟨50, _⟩ => ⟨S8x8x4096x128, .f32⟩
  | .hbm, ⟨51, _⟩ => ⟨S8x8x4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S1x8x512x128, .f32⟩
  | .local _ .vmem, ⟨10, _⟩ => ⟨S1x8x512x128, .f32⟩
  | .local _ .vmem, ⟨11, _⟩ => ⟨S1x8x512x128, .f32⟩
  | .local _ .vmem, ⟨12, _⟩ => ⟨S1x8x512x128, .f32⟩
  | .local _ .vmem, ⟨13, _⟩ => ⟨S1x8x512x128, .f32⟩
  | .local _ .vmem, ⟨14, _⟩ => ⟨S1x8x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjARefIdeal.lean ====
abbrev S32768x1024 : Shape := ⟨2, ![32768, 1024]⟩
abbrev S4096 : Shape := ⟨1, ![4096]⟩
abbrev S1024x3072 : Shape := ⟨2, ![1024, 3072]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S32768x3072 : Shape := ⟨2, ![32768, 3072]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S8x4096x16x16 : Shape := ⟨4, ![8, 4096, 16, 16]⟩
abbrev S4096x1x8 : Shape := ⟨3, ![4096, 1, 8]⟩
abbrev S8x4096x16x8 : Shape := ⟨4, ![8, 4096, 16, 8]⟩
abbrev S1x4096x1x8 : Shape := ⟨4, ![1, 4096, 1, 8]⟩
abbrev S8x4096x16x48 : Shape := ⟨4, ![8, 4096, 16, 48]⟩
abbrev S8x4096x8x128 : Shape := ⟨4, ![8, 4096, 8, 128]⟩
abbrev S8x8x4096x128 : Shape := ⟨4, ![8, 8, 4096, 128]⟩

abbrev nBuf : Space → Nat
  | .hbm => 86
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4096, .i32⟩
  | .hbm, ⟨2, _⟩ => ⟨S1024x3072, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S32768x3072, .f32⟩
  | .hbm, ⟨26, _⟩ => ⟨S8x4096x3x16x64, .f32⟩
  | .hbm, ⟨27, _⟩ => ⟨S8x4096x1x16x64, .f32⟩
  | .hbm, ⟨28, _⟩ => ⟨S8x4096x16x64, .f32⟩
  | .hbm, ⟨29, _⟩ => ⟨S8x4096x1x16x64, .f32⟩
  | .hbm, ⟨30, _⟩ => ⟨S8x4096x16x64, .f32⟩
  | .hbm, ⟨31, _⟩ => ⟨S8x4096x1x16x64, .f32⟩
  | .hbm, ⟨32, _⟩ => ⟨S8x4096x16x64, .f32⟩
  | .hbm, ⟨33, _⟩ => ⟨S8x4096x16x16, .f32⟩
  | .hbm, ⟨34, _⟩ => ⟨S4096x1x8, .f32⟩
  | .hbm, ⟨35, _⟩ => ⟨S4096x1x8, .f32⟩
  | .hbm, ⟨36, _⟩ => ⟨S8x4096x16x8, .f32⟩
  | .hbm, ⟨37, _⟩ => ⟨S8x4096x16x8, .f32⟩
  | .hbm, ⟨38, _⟩ => ⟨S1x4096x1x8, .f32⟩
  | .hbm, ⟨39, _⟩ => ⟨S8x4096x16x8, .f32⟩
  | .hbm, ⟨40, _⟩ => ⟨S8x4096x16x8, .f32⟩
  | .hbm, ⟨41, _⟩ => ⟨S1x4096x1x8, .f32⟩
  | .hbm, ⟨42, _⟩ => ⟨S8x4096x16x8, .f32⟩
  | .hbm, ⟨43, _⟩ => ⟨S8x4096x16x8, .f32⟩
  | .hbm, ⟨44, _⟩ => ⟨S8x4096x16x8, .f32⟩
  | .hbm, ⟨45, _⟩ => ⟨S1x4096x1x8, .f32⟩
  | .hbm, ⟨46, _⟩ => ⟨S8x4096x16x8, .f32⟩
  | .hbm, ⟨47, _⟩ => ⟨S8x4096x16x8, .f32⟩
  | .hbm, ⟨48, _⟩ => ⟨S1x4096x1x8, .f32⟩
  | .hbm, ⟨49, _⟩ => ⟨S8x4096x16x8, .f32⟩
  | .hbm, ⟨50, _⟩ => ⟨S8x4096x16x8, .f32⟩
  | .hbm, ⟨51, _⟩ => ⟨S8x4096x16x8, .f32⟩
  | .hbm, ⟨52, _⟩ => ⟨S8x4096x16x16, .f32⟩
  | .hbm, ⟨53, _⟩ => ⟨S8x4096x16x48, .f32⟩
  | .hbm, ⟨54, _⟩ => ⟨S8x4096x16x64, .f32⟩
  | .hbm, ⟨55, _⟩ => ⟨S8x4096x16x16, .f32⟩
  | .hbm, ⟨56, _⟩ => ⟨S4096x1x8, .f32⟩
  | .hbm, ⟨57, _⟩ => ⟨S4096x1x8, .f32⟩
  | .hbm, ⟨58, _⟩ => ⟨S8x4096x16x8, .f32⟩
  | .hbm, ⟨59, _⟩ => ⟨S8x4096x16x8, .f32⟩
  | .hbm, ⟨60, _⟩ => ⟨S1x4096x1x8, .f32⟩
  | .hbm, ⟨61, _⟩ => ⟨S8x4096x16x8, .f32⟩
  | .hbm, ⟨62, _⟩ => ⟨S8x4096x16x8, .f32⟩
  | .hbm, ⟨63, _⟩ => ⟨S1x4096x1x8, .f32⟩
  | .hbm, ⟨64, _⟩ => ⟨S8x4096x16x8, .f32⟩
  | .hbm, ⟨65, _⟩ => ⟨S8x4096x16x8, .f32⟩
  | .hbm, ⟨66, _⟩ => ⟨S8x4096x16x8, .f32⟩
  | .hbm, ⟨67, _⟩ => ⟨S1x4096x1x8, .f32⟩
  | .hbm, ⟨68, _⟩ => ⟨S8x4096x16x8, .f32⟩
  | .hbm, ⟨69, _⟩ => ⟨S8x4096x16x8, .f32⟩
  | .hbm, ⟨70, _⟩ => ⟨S1x4096x1x8, .f32⟩
  | .hbm, ⟨71, _⟩ => ⟨S8x4096x16x8, .f32⟩
  | .hbm, ⟨72, _⟩ => ⟨S8x4096x16x8, .f32⟩
  | .hbm, ⟨73, _⟩ => ⟨S8x4096x16x8, .f32⟩
  | .hbm, ⟨74, _⟩ => ⟨S8x4096x16x16, .f32⟩
  | .hbm, ⟨75, _⟩ => ⟨S8x4096x16x48, .f32⟩
  | .hbm, ⟨76, _⟩ => ⟨S8x4096x16x64, .f32⟩
  | .hbm, ⟨77, _⟩ => ⟨S_, .f32⟩
  | .hbm, ⟨78, _⟩ => ⟨S8x4096x16x64, .f32⟩
  | .hbm, ⟨79, _⟩ => ⟨S8x4096x16x64, .f32⟩
  | .hbm, ⟨80, _⟩ => ⟨S8x4096x8x128, .f32⟩
  | .hbm, ⟨81, _⟩ => ⟨S8x8x4096x128, .f32⟩
  | .hbm, ⟨82, _⟩ => ⟨S8x4096x8x128, .f32⟩
  | .hbm, ⟨83, _⟩ => ⟨S8x8x4096x128, .f32⟩
  | .hbm, ⟨84, _⟩ => ⟨S8x4096x8x128, .f32⟩
  | .hbm, ⟨85, _⟩ => ⟨S8x8x4096x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_3 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩

abbrev nD : Nat := 1
abbrev τ : Topo := Topo.v7x

variable {F : FTy → Type} [FloatOps F]
-- ==== Out.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== OutC.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S32768x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutCRefIdeal.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x2048, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Route.lean ====
abbrev S32768x1024 : Shape := ⟨2, ![32768, 1024]⟩
abbrev S1024x8 : Shape := ⟨2, ![1024, 8]⟩
abbrev S1024x64 : Shape := ⟨2, ![1024, 64]⟩
abbrev S1024x72 : Shape := ⟨2, ![1024, 72]⟩
abbrev S_ : Shape := ⟨0, ![]⟩
abbrev S1024x128 : Shape := ⟨2, ![1024, 128]⟩
abbrev S32768x128 : Shape := ⟨2, ![32768, 128]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x8, .f32⟩
  | .hbm, ⟨2, _⟩ => ⟨S1024x64, .f32⟩
  | .hbm, ⟨3, _⟩ => ⟨S1024x72, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RouteRefIdeal.lean ====
abbrev S32768x1024 : Shape := ⟨2, ![32768, 1024]⟩
abbrev S1024x8 : Shape := ⟨2, ![1024, 8]⟩
abbrev S1024x64 : Shape := ⟨2, ![1024, 64]⟩
abbrev S32768x8 : Shape := ⟨2, ![32768, 8]⟩
abbrev S32768x64 : Shape := ⟨2, ![32768, 64]⟩
abbrev S32768x72 : Shape := ⟨2, ![32768, 72]⟩
abbrev S_ : Shape := ⟨0, ![]⟩
abbrev S32768x128 : Shape := ⟨2, ![32768, 128]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x8, .f32⟩
  | .hbm, ⟨2, _⟩ => ⟨S1024x64, .f32⟩
  | .hbm, ⟨3, _⟩ => ⟨S32768x8, .f32⟩
  | .hbm, ⟨4, _⟩ => ⟨S32768x64, .f32⟩
  | .hbm, ⟨5, _⟩ => ⟨S32768x72, .f32⟩
  | .hbm, ⟨6, _⟩ => ⟨S_, .i32⟩
  | .hbm, ⟨7, _⟩ => ⟨S_, .f32⟩
  | .hbm, ⟨8, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Gates.lean ====
abbrev S32768x1024 : Shape := ⟨2, ![32768, 1024]⟩
abbrev S1024x3088 : Shape := ⟨2, ![1024, 3088]⟩
abbrev S1024x16 : Shape := ⟨2, ![1024, 16]⟩
abbrev S_ : Shape := ⟨0, ![]⟩
abbrev S1024x128 : Shape := ⟨2, ![1024, 128]⟩
abbrev S32768x128 : Shape := ⟨2, ![32768, 128]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x3088, .f32⟩
  | .hbm, ⟨2, _⟩ => ⟨S1024x16, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GatesRefIdeal.lean ====
abbrev S32768x1024 : Shape := ⟨2, ![32768, 1024]⟩
abbrev S1024x3088 : Shape := ⟨2, ![1024, 3088]⟩
abbrev S32768x3088 : Shape := ⟨2, ![32768, 3088]⟩
abbrev S32768x16 : Shape := ⟨2, ![32768, 16]⟩
abbrev S_ : Shape := ⟨0, ![]⟩
abbrev S32768x128 : Shape := ⟨2, ![32768, 128]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3088, .f32⟩
  | .hbm, ⟨2, _⟩ => ⟨S32768x3088, .f32⟩
  | .hbm, ⟨3, _⟩ => ⟨S32768x16, .f32⟩
  | .hbm, ⟨4, _⟩ => ⟨S_, .i32⟩
  | .hbm, ⟨5, _⟩ => ⟨S_, .f32⟩
  | .hbm, ⟨6, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Combine.lean ====
abbrev S32768x1024 : Shape := ⟨2, ![32768, 1024]⟩
abbrev S32768x2 : Shape := ⟨2, ![32768, 2]⟩
abbrev S1024 : Shape := ⟨1, ![1024]⟩
abbrev S1x1024 : Shape := ⟨2, ![1, 1024]⟩
abbrev S512x1024 : Shape := ⟨2, ![512, 1024]⟩
abbrev S512x2 : Shape := ⟨2, ![512, 2]⟩
abbrev S512x1 : Shape := ⟨2, ![512, 1]⟩
abbrev S512 : Shape := ⟨1, ![512]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x2, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2, .f32⟩
  | .local _ .vmem, ⟨7, _⟩ => ⟨S512x2, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineRefIdeal.lean ====
abbrev S32768x1024 : Shape := ⟨2, ![32768, 1024]⟩
abbrev S32768x2 : Shape := ⟨2, ![32768, 2]⟩
abbrev S1024 : Shape := ⟨1, ![1024]⟩
abbrev S32768x1 : Shape := ⟨2, ![32768, 1]⟩
abbrev S_ : Shape := ⟨0, ![]⟩
abbrev S32768 : Shape := ⟨1, ![32768]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x2, .f32⟩
  | .hbm, ⟨4, _⟩ => ⟨S1024, .f32⟩
  | .hbm, ⟨5, _⟩ => ⟨S1024, .f32⟩
  | .hbm, ⟨6, _⟩ => ⟨S32768x1, .f32⟩
  | .hbm, ⟨7, _⟩ => ⟨S32768x1024, .f32⟩
  | .hbm, ⟨8, _⟩ => ⟨S32768x1024, .f32⟩
  | .hbm, ⟨9, _⟩ => ⟨S32768x1, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Experts.lean ====
abbrev S320 : Shape := ⟨1, ![320]⟩
abbrev S81920x1024 : Shape := ⟨2, ![81920, 1024]⟩
abbrev S64x1024x256 : Shape := ⟨3, ![64, 1024, 256]⟩
abbrev S64x256x1024 : Shape := ⟨3, ![64, 256, 1024]⟩
abbrev S256x1024 : Shape := ⟨2, ![256, 1024]⟩
abbrev S1x1024x256 : Shape := ⟨3, ![1, 1024, 256]⟩
abbrev S1 : Shape := ⟨1, ![1]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 5
  | .vmem => 13
  | .smem => 1
  | _ => 0

abbrev bufTy : (tb : Table) → Fin (tcTables nBuf tb) → BufTy
  | .hbm, ⟨0, _⟩ => ⟨S81920x1024, .bf16⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S81920x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S320, .i32⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S320 : Shape := ⟨1, ![320]⟩
abbrev S81920x1024 : Shape := ⟨2, ![81920, 1024]⟩
abbrev S64x1024x256 : Shape := ⟨3, ![64, 1024, 256]⟩
abbrev S64x256x1024 : Shape := ⟨3, ![64, 256, 1024]⟩
abbrev S320x256x1024 : Shape := ⟨3, ![320, 256, 1024]⟩
abbrev S_ : Shape := ⟨0, ![]⟩
abbrev S320x1 : Shape := ⟨2, ![320, 1]⟩
abbrev S320x1024x256 : Shape := ⟨3, ![320, 1024, 256]⟩
abbrev S320x256x256 : Shape := ⟨3, ![320, 256, 256]⟩

abbrev nBuf : Space → Nat
  | .hbm => 48
  | .vmem => 0
  | .smem => 0
  | _ => 0

abbrev bufTy : (tb : Table) → Fin (tcTables nBuf tb) → BufTy
  | .hbm, ⟨0, _⟩ => ⟨S320, .i32⟩
  | .hbm, ⟨1, _⟩ => ⟨S81920x1024, .bf16⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S81920x1024, .f32⟩
  | .hbm, ⟨6, _⟩ => ⟨S320x256x1024, .f32⟩
  | .hbm, ⟨7, _⟩ => ⟨S_, .i32⟩
  | .hbm, ⟨8, _⟩ => ⟨S320, .i32⟩
  | .hbm, ⟨9, _⟩ => ⟨S320, .i1⟩
  | .hbm, ⟨10, _⟩ => ⟨S_, .i32⟩
  | .hbm, ⟨11, _⟩ => ⟨S320, .i32⟩
  | .hbm, ⟨12, _⟩ => ⟨S320, .i32⟩
  | .hbm, ⟨13, _⟩ => ⟨S320, .i32⟩
  | .hbm, ⟨14, _⟩ => ⟨S320x1, .i32⟩
  | .hbm, ⟨15, _⟩ => ⟨S320x1024x256, .f32⟩
  | .hbm, ⟨16, _⟩ => ⟨S320x256x256, .f32⟩
  | .hbm, ⟨17, _⟩ => ⟨S320x256x256, .f32⟩
  | .hbm, ⟨18, _⟩ => ⟨S320x256x256, .f32⟩
  | .hbm, ⟨19, _⟩ => ⟨S_, .f32⟩
  | .hbm, ⟨20, _⟩ => ⟨S320x256x256, .f32⟩
  | .hbm, ⟨21, _⟩ => ⟨S320x256x256, .f32⟩
  | .hbm, ⟨22, _⟩ => ⟨S_, .f32⟩
  | .hbm, ⟨23, _⟩ => ⟨S320x256x256, .f32⟩
  | .hbm, ⟨24, _⟩ => ⟨S320x256x256, .f32⟩
  | .hbm, ⟨25, _⟩ => ⟨S320x256x256, .f32⟩
  | .hbm, ⟨26, _⟩ => ⟨S_, .i32⟩
  | .hbm, ⟨27, _⟩ => ⟨S320, .i32⟩
  | .hbm, ⟨28, _⟩ => ⟨S320, .i1⟩
  | .hbm, ⟨29, _⟩ => ⟨S_, .i32⟩
  | .hbm, ⟨30, _⟩ => ⟨S320, .i32⟩
  | .hbm, ⟨31, _⟩ => ⟨S320, .i32⟩
  | .hbm, ⟨32, _⟩ => ⟨S320, .i32⟩
  | .hbm, ⟨33, _⟩ => ⟨S320x1, .i32⟩
  | .hbm, ⟨34, _⟩ => ⟨S320x1024x256, .f32⟩
  | .hbm, ⟨35, _⟩ => ⟨S320x256x256, .f32⟩
  | .hbm, ⟨36, _⟩ => ⟨S320x256x256, .f32⟩
  | .hbm, ⟨37, _⟩ => ⟨S_, .i32⟩
  | .hbm, ⟨38, _⟩ => ⟨S320, .i32⟩
  | .hbm, ⟨39, _⟩ => ⟨S320, .i1⟩
  | .hbm, ⟨40, _⟩ => ⟨S_, .i32⟩
  | .hbm, ⟨41, _⟩ => ⟨S320, .i32⟩
  | .hbm, ⟨42, _⟩ => ⟨S320, .i32⟩
  | .hbm, ⟨43, _⟩ => ⟨S320, .i32⟩
  | .hbm, ⟨44, _⟩ => ⟨S320x1, .i32⟩
  | .hbm, ⟨45, _⟩ => ⟨S320x256x1024, .f32⟩
  | .hbm, ⟨46, _⟩ => ⟨S320x256x1024, .f32⟩
  | .hbm, ⟨47, _⟩ => ⟨S81920x1024, .f32⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Ret.lean ====
abbrev S32768x6144 : Shape := ⟨2, ![32768, 6144]⟩
abbrev S4096 : Shape := ⟨1, ![4096]⟩
abbrev S2048 : Shape := ⟨1, ![2048]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S8x4096x6144 : Shape := ⟨3, ![8, 4096, 6144]⟩
abbrev S4 : Shape := ⟨1, ![4]⟩
abbrev S1x2048 : Shape := ⟨2, ![1, 2048]⟩
abbrev S8x4096x2048 : Shape := ⟨3, ![8, 4096, 2048]⟩
abbrev S1x256x256 : Shape := ⟨3, ![1, 256, 256]⟩
abbrev S1x256x512 : Shape := ⟨3, ![1, 256, 512]⟩
abbrev S256x128 : Shape := ⟨2, ![256, 128]⟩
abbrev S1x512 : Shape := ⟨2, ![1, 512]⟩
abbrev S256x512 : Shape := ⟨2, ![256, 512]⟩
abbrev S256x256 : Shape := ⟨2, ![256, 256]⟩
abbrev S1 : Shape := ⟨1, ![1]⟩
abbrev S256x1 : Shape := ⟨2, ![256, 1]⟩
abbrev S1x1 : Shape := ⟨2, ![1, 1]⟩
abbrev S256 : Shape := ⟨1, ![256]⟩

abbrev nBuf : Space → Nat
  | .hbm => 39
  | .vmem => 20
  | .smem => 1
  | _ => 0

abbrev bufTy : (tb : Table) → Fin (tcTables nBuf tb) → BufTy
  | .hbm, ⟨0, _⟩ => ⟨S32768x6144, .f32⟩
  | .hbm, ⟨1, _⟩ => ⟨S4096, .i32⟩
  | .hbm, ⟨2, _⟩ => ⟨S2048, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S4096, .f32⟩
  | .hbm, ⟨18, _⟩ => ⟨S4096x1, .f32⟩
  | .hbm, ⟨19, _⟩ => ⟨S1x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S8x4096x6144, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S1x2048, .f32⟩
  | .hbm, ⟨38, _⟩ => ⟨S8x4096x2048, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x512, .f32⟩
  | .local _ .vmem, ⟨13, _⟩ => ⟨S1x512, .f32⟩
  | .local _ .vmem, ⟨14, _⟩ => ⟨S1x256x512, .bf16⟩
  | .local _ .vmem, ⟨15, _⟩ => ⟨S1x256x512, .bf16⟩
  | .local _ .vmem, ⟨16, _⟩ => ⟨S256x512, .f32⟩
  | .local _ .vmem, ⟨17, _⟩ => ⟨S256x256, .f32⟩
  | .local _ .vmem, ⟨18, _⟩ => ⟨S256x128, .f32⟩
  | .local _ .vmem, ⟨19, _⟩ => ⟨S256x128, .f32⟩
  | .local _ .smem, ⟨0, _⟩ => ⟨S4, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 4, 16], ![false, false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== RetRefIdeal.lean ====
abbrev S32768x6144 : Shape := ⟨2, ![32768, 6144]⟩
abbrev S4096 : Shape := ⟨1, ![4096]⟩
abbrev S2048 : Shape := ⟨1, ![2048]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S8x4096x6144 : Shape := ⟨3, ![8, 4096, 6144]⟩
abbrev S8x4096x1024 : Shape := ⟨3, ![8, 4096, 1024]⟩
abbrev S8x4096x4x256 : Shape := ⟨4, ![8, 4096, 4, 256]⟩
abbrev S8x4096x2048 : Shape := ⟨3, ![8, 4096, 2048]⟩
abbrev S8x4096x4x512 : Shape := ⟨4, ![8, 4096, 4, 512]⟩
abbrev S4096x1x128 : Shape := ⟨3, ![4096, 1, 128]⟩
abbrev S8x4096x4x128 : Shape := ⟨4, ![8, 4096, 4, 128]⟩
abbrev S1x4096x1x128 : Shape := ⟨4, ![1, 4096, 1, 128]⟩
abbrev S8x4x4096x256 : Shape := ⟨4, ![8, 4, 4096, 256]⟩
abbrev S8x4x4096x512 : Shape := ⟨4, ![8, 4, 4096, 512]⟩
abbrev S4 : Shape := ⟨1, ![4]⟩
abbrev S1x4096 : Shape := ⟨2, ![1, 4096]⟩
abbrev S4096x4096 : Shape := ⟨2, ![4096, 4096]⟩
abbrev S1x4096x4096 : Shape := ⟨3, ![1, 4096, 4096]⟩
abbrev S4x1x1 : Shape := ⟨3, ![4, 1, 1]⟩
abbrev S4x4096x4096 : Shape := ⟨3, ![4, 4096, 4096]⟩
abbrev S8x4x4096x4096 : Shape := ⟨4, ![8, 4, 4096, 4096]⟩
abbrev S1x4x4096x4096 : Shape := ⟨4, ![1, 4, 4096, 4096]⟩
abbrev S4x512 : Shape := ⟨2, ![4, 512]⟩
abbrev S8x4096x4 : Shape := ⟨3, ![8, 4096, 4]⟩
abbrev S8x4096x4x1 : Shape := ⟨4, ![8, 4096, 4, 1]⟩
abbrev S1x1x4x512 : Shape := ⟨4, ![1, 1, 4, 512]⟩

abbrev nBuf : Space → Nat
  | .hbm => 156
  | .vmem => 0
  | .smem => 0
  | _ => 0

abbrev hbmTy0_0 (i : Nat) : BufTy := match i % 128 with
  | 0 => ⟨S32768x6144, .f32⟩
  | 1 => ⟨S4096, .i32⟩
  | 2 => ⟨S2048, .f32⟩
  | 3 => ⟨S128, .f32⟩
  | 4 => ⟨S_, .f32⟩
  | 5 => ⟨S128, .f32⟩
  | 6 => ⟨S128, .f32⟩
  | 7 => ⟨S_, .f32⟩
  | 8 => ⟨S128, .f32⟩
  | 9 => ⟨S128, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S4096, .f32⟩
  | 18 => ⟨S4096x1, .f32⟩
  | 19 => ⟨S1x128, .f32⟩
  | 20 => ⟨S4096x128, .f32⟩
  | 21 => ⟨S4096x128, .f32⟩
  | 22 => ⟨S4096x128, .f32⟩
  | 23 => ⟨S4096x128, .f32⟩
  | 24 => ⟨S4096x128, .f32⟩
  | 25 => ⟨S8x4096x6144, .f32⟩
  | 26 => ⟨S8x4096x1024, .f32⟩
  | 27 => ⟨S8x4096x4x256, .f32⟩
  | 28 => ⟨S8x4096x1024, .f32⟩
  | 29 => ⟨S8x4096x4x256, .f32⟩
  | 30 => ⟨S8x4096x2048, .f32⟩
  | 31 => ⟨S8x4096x4x512, .f32⟩
  | 32 => ⟨S8x4096x2048, .f32⟩
  | 33 => ⟨S4096x1x128, .f32⟩
  | 34 => ⟨S4096x1x128, .f32⟩
  | 35 => ⟨S8x4096x4x128, .f32⟩
  | 36 => ⟨S8x4096x4x128, .f32⟩
  | 37 => ⟨S1x4096x1x128, .f32⟩
  | 38 => ⟨S8x4096x4x128, .f32⟩
  | 39 => ⟨S8x4096x4x128, .f32⟩
  | 40 => ⟨S1x4096x1x128, .f32⟩
  | 41 => ⟨S8x4096x4x128, .f32⟩
  | 42 => ⟨S8x4096x4x128, .f32⟩
  | 43 => ⟨S8x4096x4x128, .f32⟩
  | 44 => ⟨S1x4096x1x128, .f32⟩
  | 45 => ⟨S8x4096x4x128, .f32⟩
  | 46 => ⟨S8x4096x4x128, .f32⟩
  | 47 => ⟨S1x4096x1x128, .f32⟩
  | 48 => ⟨S8x4096x4x128, .f32⟩
  | 49 => ⟨S8x4096x4x128, .f32⟩
  | 50 => ⟨S8x4096x4x128, .f32⟩
  | 51 => ⟨S8x4096x4x256, .f32⟩
  | 52 => ⟨S8x4x4096x256, .f32⟩
  | 53 => ⟨S4096x1x128, .f32⟩
  | 54 => ⟨S4096x1x128, .f32⟩
  | 55 => ⟨S8x4096x4x128, .f32⟩
  | 56 => ⟨S8x4096x4x128, .f32⟩
  | 57 => ⟨S1x4096x1x128, .f32⟩
  | 58 => ⟨S8x4096x4x128, .f32⟩
  | 59 => ⟨S8x4096x4x128, .f32⟩
  | 60 => ⟨S1x4096x1x128, .f32⟩
  | 61 => ⟨S8x4096x4x128, .f32⟩
  | 62 => ⟨S8x4096x4x128, .f32⟩
  | 63 => ⟨S8x4096x4x128, .f32⟩
  | 64 => ⟨S1x4096x1x128, .f32⟩
  | 65 => ⟨S8x4096x4x128, .f32⟩
  | 66 => ⟨S8x4096x4x128, .f32⟩
  | 67 => ⟨S1x4096x1x128, .f32⟩
  | 68 => ⟨S8x4096x4x128, .f32⟩
  | 69 => ⟨S8x4096x4x128, .f32⟩
  | 70 => ⟨S8x4096x4x128, .f32⟩
  | 71 => ⟨S8x4096x4x256, .f32⟩
  | 72 => ⟨S_, .f32⟩
  | 73 => ⟨S8x4096x4x256, .f32⟩
  | 74 => ⟨S8x4096x4x256, .f32⟩
  | 75 => ⟨S8x4x4096x256, .f32⟩
  | 76 => ⟨S8x4x4096x512, .f32⟩
  | 77 => ⟨S4, .f32⟩
  | 78 => ⟨S_, .f32⟩
  | 79 => ⟨S4, .f32⟩
  | 80 => ⟨S4, .f32⟩
  | 81 => ⟨S_, .f32⟩
  | 82 => ⟨S4, .f32⟩
  | 83 => ⟨S4, .f32⟩
  | 84 => ⟨S_, .f32⟩
  | 85 => ⟨S4, .f32⟩
  | 86 => ⟨S4, .f32⟩
  | 87 => ⟨S4, .f32⟩
  | 88 => ⟨S4096, .f32⟩
  | 89 => ⟨S4096x1, .f32⟩
  | 90 => ⟨S1x4096, .f32⟩
  | 91 => ⟨S4096x4096, .f32⟩
  | 92 => ⟨S4096x4096, .f32⟩
  | 93 => ⟨S4096x4096, .f32⟩
  | 94 => ⟨S_, .f32⟩
  | 95 => ⟨S4096x4096, .f32⟩
  | 96 => ⟨S4096x4096, .i1⟩
  | 97 => ⟨S_, .f32⟩
  | 98 => ⟨S4096x4096, .f32⟩
  | 99 => ⟨S4096x4096, .f32⟩
  | 100 => ⟨S1x4096x4096, .f32⟩
  | 101 => ⟨S4x1x1, .f32⟩
  | 102 => ⟨S4x4096x4096, .f32⟩
  | 103 => ⟨S4x4096x4096, .f32⟩
  | 104 => ⟨S4x4096x4096, .f32⟩
  | 105 => ⟨S4x4096x4096, .f32⟩
  | 106 => ⟨S_, .f32⟩
  | 107 => ⟨S_, .f32⟩
  | 108 => ⟨S4x4096x4096, .i1⟩
  | 109 => ⟨S4x4096x4096, .f32⟩
  | 110 => ⟨S4x4096x4096, .f32⟩
  | 111 => ⟨S8x4x4096x4096, .f32⟩
  | 112 => ⟨S1x4x4096x4096, .f32⟩
  | 113 => ⟨S8x4x4096x4096, .f32⟩
  | 114 => ⟨S8x4x4096x4096, .f32⟩
  | 115 => ⟨S8x4x4096x512, .f32⟩
  | 116 => ⟨S8x4096x4x512, .f32⟩
  | 117 => ⟨S4x512, .f32⟩
  | 118 => ⟨S_, .f32⟩
  | 119 => ⟨S8x4096x4, .f32⟩
  | 120 => ⟨S8x4096x4x1, .f32⟩
  | 121 => ⟨S_, .f32⟩
  | 122 => ⟨S8x4096x4x1, .f32⟩
  | 123 => ⟨S8x4096x4x1, .f32⟩
  | 124 => ⟨S8x4096x4x512, .f32⟩
  | 125 => ⟨S8x4096x4x512, .f32⟩
  | 126 => ⟨S8x4096x4x512, .f32⟩
  | 127 => ⟨S_, .f32⟩
  | _ => ⟨S32768x6144, .f32⟩

abbrev hbmTy0_1 (i : Nat) : BufTy := match i % 128 with
  | 0 => ⟨S8x4096x4, .f32⟩
  | 1 => ⟨S8x4096x4x1, .f32⟩
  | 2 => ⟨S_, .f32⟩
  | 3 => ⟨S8x4096x4x1, .f32⟩
  | 4 => ⟨S8x4096x4x1, .f32⟩
  | 5 => ⟨S8x4096x4x512, .f32⟩
  | 6 => ⟨S8x4096x4x512, .f32⟩
  | 7 => ⟨S_, .f32⟩
  | 8 => ⟨S8x4096x4x1, .f32⟩
  | 9 => ⟨S8x4096x4x1, .f32⟩
  | 10 => ⟨S8x4096x4x1, .f32⟩
  | 11 => ⟨S8x4096x4x512, .f32⟩
  | 12 => ⟨S8x4096x4x512, .f32⟩
  | 13 => ⟨S1x1x4x512, .f32⟩
  | 14 => ⟨S8x4096x4x512, .f32⟩
  | 15 => ⟨S8x4096x4x512, .f32⟩
  | 16 => ⟨S8x4096x2048, .f32⟩
  | 17 => ⟨S8x4096x2048, .f32⟩
  | 18 => ⟨S8x4096x2048, .f32⟩
  | 19 => ⟨S_, .f32⟩
  | 20 => ⟨S8x4096x2048, .f32⟩
  | 21 => ⟨S8x4096x2048, .f32⟩
  | 22 => ⟨S_, .f32⟩
  | 23 => ⟨S8x4096x2048, .f32⟩
  | 24 => ⟨S8x4096x2048, .f32⟩
  | 25 => ⟨S8x4096x2048, .f32⟩
  | 26 => ⟨S8x4096x2048, .f32⟩
  | 27 => ⟨S8x4096x2048, .bf16⟩
  | _ => ⟨S32768x6144, .f32⟩

abbrev hbmTy (i : Nat) : BufTy := match i / 128 with
  | 0 => hbmTy0_0 i
  | 1 => hbmTy0_1 i
  | _ => ⟨S32768x6144, .f32⟩

abbrev bufTy : (tb : Table) → Fin (tcTables nBuf tb) → BufTy
  | .hbm, ⟨i, _⟩ => hbmTy i
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_cst_3 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_7 : Ref sig .tc := ⟨.hbm, 94, rfl⟩
abbrev main_v83 : Ref sig .tc := ⟨.hbm, 95, rfl⟩
abbrev main_v84 : Ref sig .tc := ⟨.hbm, 96, rfl⟩
abbrev main_cst_8 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_9 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_cst_11 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_12 : Ref sig .tc := ⟨.hbm, 127, rfl⟩
abbrev main_v108 : Ref sig .tc := ⟨.hbm, 128, rfl⟩
abbrev main_v109 : Ref sig .tc := ⟨.hbm, 129, rfl⟩
abbrev main_cst_13 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_14 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_call1_v0 : Ref sig .tc := ⟨.hbm, 145, rfl⟩
abbrev main_call1_v1 : Ref sig .tc := ⟨.hbm, 146, rfl⟩
abbrev main_call1_cst : Ref sig .tc := ⟨.hbm, 147, rfl⟩
abbrev main_call1_v2 : Ref sig .tc := ⟨.hbm, 148, rfl⟩
abbrev main_call1_v3 : Ref sig .tc := ⟨.hbm, 149, rfl⟩
abbrev main_call1_cst_0 : Ref sig .tc := ⟨.hbm, 150, rfl⟩
abbrev main_call1_v4 : Ref sig .tc := ⟨.hbm, 151, rfl⟩
abbrev main_call1_v5 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩

abbrev nD : Nat := 1
abbrev τ : Topo := Topo.v7x

variable {F : FTy → Type} [FloatOps F]
-- ==== Proof.ProjCValue.lean ====
/- What the projection ProjC leaves in its result array.  -/
module

public import proofs.«01_k».proof.Proof.Gen.ProjCIdeal.Frame
public import proofs.«01_k».proof.Proof.Gen.ProjCRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjCProof

open Cert.ProjCIdeal Cert.ProjCIdeal.Gen

variable (m : (ℓ : Loc nD τ sig) → Buf (Elt Ideal) ℓ)

/-- The product of the two argument arrays, each entry one whole sum over the 1024 features. -/
def prod (x : FVec Ideal S32768x1024 .f32) (w : FVec Ideal S1024x6144 .f32) : FVec Ideal S32768x6144 .f32 :=
  Host.dotGeneral Cert.ProjCRefIdeal.dot_S32768x1024_S1024x6144_S32768x6144_1_0_0_1_n_n none x w

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjCProof

end
-- ==== Proof.ProjCClaims.lean ====
/- The five claims about the call ProjC. -/
module

public import proofs.«01_k».proof.Defs
public import proofs.«01_k».proof.Proof.Gen.ProjC.Frame
public import proofs.«01_k».proof.Proof.ProjCValue

@[expose] public section

set_option maxRecDepth 16384

noncomputable section

namespace Cert.ProjCProof

open Idealize.ShloMosaic Idealize.SL.Sem

attribute [local instance] Cert.ProjC.Gen.facts Cert.ProjCIdeal.Gen.facts Cert.ProjCRefIdeal.Gen.facts

theorem frame_kernel : Cert.quiescent_ProjC := fun m ρ _ => Cert.ProjC.Gen.frame m ρ

theorem frame_ideal : Cert.quiescent_ProjCIdeal := fun m ρ _ => Cert.ProjCIdeal.Gen.frame m ρ

/-- The reference is host operations only, and declares no semaphore. -/
theorem frame_reference : Cert.quiescent_ProjCRefIdeal := fun m ρ _ =>
  (θ_run Cert.ProjCRefIdeal.defs _ _).mono
    (fun r h => ⟨fun c => (h c).2, sem_eq_zero_of_no_sems (by decide) r.2⟩)
    (Cert.ProjCRefIdeal.Value.run (F := Ideal) m ρ)

/-- The idealized kernel is the kernel with no rewrite applied. -/
theorem preserved : Cert.preserves_ProjC_ProjCIdeal := trivial

/-- The kernel's result array is the reference's term over the same arguments. -/
theorem equal : Cert.algebraic_ProjCIdeal_ProjCRefIdeal := by
  pair_intro
  · run_from Cert.ProjCIdeal.Gen.run_main m g
  · hlo_run
    exact (Cert.ProjCProof.final m c).symm

end Cert.ProjCProof

end
-- ==== Proof.ProjBValue.lean ====
/- What the projection ProjB leaves in its result array.  -/
module

public import proofs.«01_k».proof.Proof.Gen.ProjBIdeal.Frame
public import proofs.«01_k».proof.Proof.Gen.ProjBRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjBProof

open Cert.ProjBIdeal Cert.ProjBIdeal.Gen

variable (m : (ℓ : Loc nD τ sig) → Buf (Elt Ideal) ℓ)

/-- The product of the two argument arrays, each entry one whole sum over the 1024 features, without the gate columns. -/
def prod (x : FVec Ideal S32768x1024 .f32) (w : FVec Ideal S1024x3088 .f32) : FVec Ideal S32768x3072 .f32 :=
  extractStridedSlice Cert.ProjBRefIdeal.S32768x3072 ![0, 0]
    (Host.dotGeneral Cert.ProjBRefIdeal.dot_S32768x1024_S1024x3088_S32768x3088_1_0_0_1_n_n none x w)
    Cert.ProjBRefIdeal.Gen.slices_S32768x3088_S32768x3072_0_0

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjBProof

end
-- ==== Proof.ProjBClaims.lean ====
/- The five claims about the call ProjB. -/
module

public import proofs.«01_k».proof.Defs
public import proofs.«01_k».proof.Proof.Gen.ProjB.Frame
public import proofs.«01_k».proof.Proof.ProjBValue

@[expose] public section

set_option maxRecDepth 16384

noncomputable section

namespace Cert.ProjBProof

open Idealize.ShloMosaic Idealize.SL.Sem

attribute [local instance] Cert.ProjB.Gen.facts Cert.ProjBIdeal.Gen.facts Cert.ProjBRefIdeal.Gen.facts

theorem frame_kernel : Cert.quiescent_ProjB := fun m ρ _ => Cert.ProjB.Gen.frame m ρ

theorem frame_ideal : Cert.quiescent_ProjBIdeal := fun m ρ _ => Cert.ProjBIdeal.Gen.frame m ρ

/-- The reference is host operations only, and declares no semaphore. -/
theorem frame_reference : Cert.quiescent_ProjBRefIdeal := fun m ρ _ =>
  (θ_run Cert.ProjBRefIdeal.defs _ _).mono
    (fun r h => ⟨fun c => (h c).2, sem_eq_zero_of_no_sems (by decide) r.2⟩)
    (Cert.ProjBRefIdeal.Value.run (F := Ideal) m ρ)

/-- The idealized kernel is the kernel with no rewrite applied. -/
theorem preserved : Cert.preserves_ProjB_ProjBIdeal := trivial

/-- The kernel's result array is the reference's term over the same arguments. -/
theorem equal : Cert.algebraic_ProjBIdeal_ProjBRefIdeal := by
  pair_intro
  · run_from Cert.ProjBIdeal.Gen.run_main m g
  · hlo_run
    exact (Cert.ProjBProof.final m c).symm

end Cert.ProjBProof

end
-- ==== Proof.ProjABlock.lean ====
/- What one grid point of the projection ProjA leaves in its three blocks, entry by entry: every entry of the product of
   the point's rows with the weights, turned (queries and keys) by the rows' tables. -/
module

public import proofs.«01_k».proof.Proof.Gen.ProjAIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjAProof

open Cert.ProjAIdeal Cert.ProjAIdeal.Gen

/-- One entry of the product of the point's rows with the weights. -/
def dotAt (x : Vec Ideal S512x1024 .bf16) (w : Vec Ideal S1024x3072 .bf16) (r : Fin 512) (n : Fin 3072) : EReal :=
  ∑ k : Fin 1024, (x (ix2 r k) : EReal) * w (ix2 k n)

/-- The lane `l` of pair `p` of heads, in the 256 lanes of one product of the body. -/
def lane (p : Fin 8) (l : Fin 128) : Fin 256 := ⟨p.val % 2 * 128 + l.val, by omega⟩

/-- The entry at lane `l` of pair `p` of heads in the columns of part `part` (queries, keys), turned by the tables: each
    of the 256 lanes times the first table, the lane 8 further on times the second, the lane 8 before times the third. -/
def turnAt (part : Fin 2) (x : Vec Ideal S512x1024 .bf16) (w : Vec Ideal S1024x3072 .bf16) (c s₁ s₂ : Vec Ideal S512x256 .f32)
    (p : Fin 8) (r : Fin 512) (l : Fin 128) : EReal :=
  dotAt x w r ⟨part.val * 1024 + p.val * 128 + l.val, by omega⟩ * (c (ix2 r (lane p l)) : EReal)
    + dotAt x w r ⟨part.val * 1024 + p.val / 2 * 256 + (p.val % 2 * 128 + l.val + 8) % 256, by omega⟩ * (s₁ (ix2 r (lane p l)) : EReal)
    + dotAt x w r ⟨part.val * 1024 + p.val / 2 * 256 + (p.val % 2 * 128 + l.val + 248) % 256, by omega⟩ * (s₂ (ix2 r (lane p l)) : EReal)

variable (x0 : Vec Ideal S512x1024 .bf16) (x1 : Vec Ideal S1024x3072 .bf16) (x2 x3 x4 : Vec Ideal S512x256 .f32)

/-- The queries' block. -/
theorem queries (y : S1x8x512x128.Idx) :
    out0_5 x0 x1 x2 x3 x4 y = turnAt 0 x0 x1 x2 x3 x4 (y 1) (y 2) (y 3) * Ideal.ofBits .f32 0x3E000000#32 := by
  canon_tiles x h
  all_goals
    open_payloads
    pointwise [turnAt, dotAt]
    blk_point [lane]

/-- The keys' block. -/
theorem keys (y : S1x8x512x128.Idx) :
    out0_6 x0 x1 x2 x3 x4 y = turnAt 1 x0 x1 x2 x3 x4 (y 1) (y 2) (y 3) := by
  canon_tiles x h
  all_goals
    open_payloads
    pointwise [turnAt, dotAt]
    blk_point [lane]

/-- The values' block. -/
theorem values (y : S1x8x512x128.Idx) :
    out0_7 x0 x1 x2 x3 x4 y
      = dotAt x0 x1 (y 2) ⟨2048 + (y 1).val * 128 + (y 3).val, by have h1 : (y 1).val < 8 := (y 1).2; have h3 : (y 3).val < 128 := (y 3).2; omega⟩ := by
  canon_tiles x h
  all_goals
    open_payloads
    pointwise [dotAt]
    blk_point

end Cert.ProjAProof

end
-- ==== Proof.ProjARotary.lean ====
/- The rotary embedding of ProjA: the reference's term, named piece by piece and read at an index, and the three tables the
   kernel's host code builds from the positions. -/
module

public import proofs.«01_k».proof.Proof.Gen.ProjAIdeal.Frame
public import proofs.«01_k».proof.Proof.Gen.ProjARefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjAProof

section reference

open Cert.ProjARefIdeal Cert.ProjARefIdeal.Gen

/-- The angle of every position for every one of the eight frequencies. -/
def angles (pos : IVec S4096 32) : FVec Ideal S4096x8 .f32 :=
  mulf (broadcastInDim S4096x8 ![0, 1] bcast_S4096x1_S4096x8_0_1 (broadcastInDim S4096x1 ![0] bcast_S4096_S4096x1_0 (sitofp .f32 pos)))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

/-- The product of the rows with the weights, by sequence, position, part, head and feature. -/
def heads (h : FVec Ideal S32768x1024 .f32) (w : FVec Ideal S1024x3072 .f32) : FVec Ideal S8x4096x3x16x64 .f32 :=
  shapeCast _ (Host.dotGeneral dot_S32768x1024_S1024x3072_S32768x3072_1_0_0_1_n_n none h w) shapeCasts_S32768x3072_S8x4096x3x16x64

/-- The queries' part. -/
def queryPart (x : FVec Ideal S8x4096x3x16x64 .f32) : FVec Ideal S8x4096x16x64 .f32 :=
  shapeCast _ (extractStridedSlice S8x4096x1x16x64 ![0, 0, 0, 0, 0] x slices_S8x4096x3x16x64_S8x4096x1x16x64_0_0_0_0_0)
    shapeCasts_S8x4096x1x16x64_S8x4096x16x64

/-- The keys' part. -/
def keyPart (x : FVec Ideal S8x4096x3x16x64 .f32) : FVec Ideal S8x4096x16x64 .f32 :=
  shapeCast _ (extractStridedSlice S8x4096x1x16x64 ![0, 0, 1, 0, 0] x slices_S8x4096x3x16x64_S8x4096x1x16x64_0_0_1_0_0)
    shapeCasts_S8x4096x1x16x64_S8x4096x16x64

/-- The values' part. -/
def valuePart (x : FVec Ideal S8x4096x3x16x64 .f32) : FVec Ideal S8x4096x16x64 .f32 :=
  shapeCast _ (extractStridedSlice S8x4096x1x16x64 ![0, 0, 2, 0, 0] x slices_S8x4096x3x16x64_S8x4096x1x16x64_0_0_2_0_0)
    shapeCasts_S8x4096x1x16x64_S8x4096x16x64

/-- A table of positions and frequencies, repeated over the sequences and heads. -/
def spread (x : FVec Ideal S4096x8 .f32) : FVec Ideal S8x4096x16x8 .f32 :=
  broadcastInDim S8x4096x16x8 ![0, 1, 2, 3] bcast_S1x4096x1x8_S8x4096x16x8_0_1_2_3
    (broadcastInDim S1x4096x1x8 ![1, 2, 3] bcast_S4096x1x8_S1x4096x1x8_1_2_3
      (broadcastInDim S4096x1x8 ![0, 2] bcast_S4096x8_S4096x1x8_0_2 x))

/-- The first eight features. -/
def firstEight (x : FVec Ideal S8x4096x16x64 .f32) : FVec Ideal S8x4096x16x8 .f32 :=
  extractStridedSlice S8x4096x16x8 ![0, 0, 0, 0]
    (extractStridedSlice S8x4096x16x16 ![0, 0, 0, 0] x slices_S8x4096x16x64_S8x4096x16x16_0_0_0_0) slices_S8x4096x16x16_S8x4096x16x8_0_0_0_0

/-- The next eight features. -/
def nextEight (x : FVec Ideal S8x4096x16x64 .f32) : FVec Ideal S8x4096x16x8 .f32 :=
  extractStridedSlice S8x4096x16x8 ![0, 0, 0, 8]
    (extractStridedSlice S8x4096x16x16 ![0, 0, 0, 0] x slices_S8x4096x16x64_S8x4096x16x16_0_0_0_0) slices_S8x4096x16x16_S8x4096x16x8_0_0_0_8

/-- The rotary embedding: of every head the first eight features with the next eight turn by the angles, the other 48 stay. -/
def rope (x : FVec Ideal S8x4096x16x64 .f32) (a : FVec Ideal S4096x8 .f32) : FVec Ideal S8x4096x16x64 .f32 :=
  concatenate S8x4096x16x64 3
    [⟨S8x4096x16x16, concatenate S8x4096x16x16 3
      [⟨S8x4096x16x8, subf (mulf (firstEight x) (spread (Host.cos a))) (mulf (nextEight x) (spread (Host.sin a)))⟩,
       ⟨S8x4096x16x8, addf (mulf (nextEight x) (spread (Host.cos a))) (mulf (firstEight x) (spread (Host.sin a)))⟩]
      concatenates_S8x4096x16x8_S8x4096x16x8_S8x4096x16x16_d3⟩,
     ⟨S8x4096x16x48, extractStridedSlice S8x4096x16x48 ![0, 0, 0, 16] x slices_S8x4096x16x64_S8x4096x16x48_0_0_0_16⟩]
    concatenates_S8x4096x16x16_S8x4096x16x48_S8x4096x16x64_d3

/-- The heads by pairs, before the positions. -/
def laidOut (x : FVec Ideal S8x4096x16x64 .f32) : FVec Ideal S8x8x4096x128 .f32 :=
  transpose S8x8x4096x128 [0, 2, 1, 3] (shapeCast _ x shapeCasts_S8x4096x16x64_S8x4096x8x128) transposes_S8x4096x8x128_S8x8x4096x128_0_2_1_3

/-- Every entry an eighth. -/
def eighth (x : FVec Ideal S8x4096x16x64 .f32) : FVec Ideal S8x4096x16x64 .f32 :=
  mulf x (broadcastInDim S8x4096x16x64 ![] bcast_S_S8x4096x16x64 (constant S_ .f32 0x3E000000#32))

/-- The queries of rows, positions and weights. -/
def queriesOf (h : FVec Ideal S32768x1024 .f32) (pos : IVec S4096 32) (w : FVec Ideal S1024x3072 .f32) :
    FVec Ideal S8x8x4096x128 .f32 :=
  laidOut (eighth (rope (queryPart (heads h w)) (angles pos)))

/-- The keys of rows, positions and weights. -/
def keysOf (h : FVec Ideal S32768x1024 .f32) (pos : IVec S4096 32) (w : FVec Ideal S1024x3072 .f32) :
    FVec Ideal S8x8x4096x128 .f32 :=
  laidOut (rope (keyPart (heads h w)) (angles pos))

/-- The values of rows and weights. -/
def valuesOf (h : FVec Ideal S32768x1024 .f32) (w : FVec Ideal S1024x3072 .f32) : FVec Ideal S8x8x4096x128 .f32 :=
  laidOut (valuePart (heads h w))

theorem reference_queries (m : (ℓ : Loc nD τ sig) → Buf (Elt Ideal) ℓ) (c : Dev nD) (h : FVec Ideal S32768x1024 .f32)
    (pos : IVec S4096 32) (w : FVec Ideal S1024x3072 .f32) (h₀ : m ((c.tc : Thread nD τ).loc main_arg0) = h)
    (h₁ : m ((c.tc : Thread nD τ).loc main_arg1) = pos) (h₂ : m ((c.tc : Thread nD τ).loc main_arg2) = w) :
    Cert.ProjARefIdeal.Value.res_main_v73 m c = queriesOf h pos w := by
  subst h₀ h₁ h₂
  rfl

theorem reference_keys (m : (ℓ : Loc nD τ sig) → Buf (Elt Ideal) ℓ) (c : Dev nD) (h : FVec Ideal S32768x1024 .f32)
    (pos : IVec S4096 32) (w : FVec Ideal S1024x3072 .f32) (h₀ : m ((c.tc : Thread nD τ).loc main_arg0) = h)
    (h₁ : m ((c.tc : Thread nD τ).loc main_arg1) = pos) (h₂ : m ((c.tc : Thread nD τ).loc main_arg2) = w) :
    Cert.ProjARefIdeal.Value.res_main_v75 m c = keysOf h pos w := by
  subst h₀ h₁ h₂
  rfl

variable (x : FVec Ideal S8x4096x16x64 .f32) (a : FVec Ideal S4096x8 .f32) (b : Fin 8) (s : Fin 4096) (i : Fin 16)

/-- A feature among the first eight turns with the one eight further on. -/
theorem rope_first (u : Fin 64) (hu : u.val < 8) :
    rope x a (ix4 b s i u) = (x (ix4 b s i u) : EReal) * Host.cos a (ix2 s ⟨u.val, hu⟩)
      - (x (ix4 b s i ⟨u.val + 8, by omega⟩) : EReal) * Host.sin a (ix2 s ⟨u.val, hu⟩) := by
  pointwise [rope, firstEight, nextEight, spread, hu]
  simp only [show u.val < 16 by omega, ↓reduceDIte, Nat.add_comm]

/-- A feature among the next eight turns with the one eight before. -/
theorem rope_next (u : Fin 64) (hl : 8 ≤ u.val) (hu : u.val < 16) :
    rope x a (ix4 b s i u) = (x (ix4 b s i u) : EReal) * Host.cos a (ix2 s ⟨u.val - 8, by omega⟩)
      + (x (ix4 b s i ⟨u.val - 8, by omega⟩) : EReal) * Host.sin a (ix2 s ⟨u.val - 8, by omega⟩) := by
  pointwise [rope, firstEight, nextEight, spread, hu]
  have h : 8 + (u.val - 8) = u.val := by omega
  simp only [show ¬ u.val < 8 by omega, ↓reduceDIte, h]

/-- The other features stay. -/
theorem rope_rest (u : Fin 64) (hu : 16 ≤ u.val) : rope x a (ix4 b s i u) = x (ix4 b s i u) := by
  pointwise [rope, firstEight, nextEight, spread, hu]
  have h : 16 + (u.val - 16) = u.val := by omega
  simp only [show ¬ u.val < 16 by omega, ↓reduceDIte, h]

end reference

section tables

open Cert.ProjAIdeal Cert.ProjAIdeal.Gen

variable (m : (ℓ : Loc nD τ sig) → Buf (Elt Ideal) ℓ)

/-- The angles of the argument's positions. -/
def angle (c : Dev nD) : FVec Ideal S4096x8 .f32 := angles (m ((c : Thread nD τ).loc main_arg1))

/-- A table of 64 columns, repeated four times along its columns. -/
def fourfold (x : FVec Ideal S4096x64 .f32) : FVec Ideal S4096x256 .f32 :=
  shapeCast _ (broadcastInDim S1x4096x4x64 ![0, 1, 2, 3] bcast_S1x4096x1x64_S1x4096x4x64_0_1_2_3
    (shapeCast _ x shapeCasts_S4096x64_S1x4096x1x64)) shapeCasts_S1x4096x4x64_S4096x256

/-- 48 columns of zeros. -/
def zeros : FVec Ideal S4096x48 .f32 := broadcastInDim S4096x48 ![] bcast_S_S4096x48 (constant S_ .f32 0x00000000#32)

/-- The factors of the feature itself. -/
def own (a : FVec Ideal S4096x8 .f32) : FVec Ideal S4096x256 .f32 :=
  fourfold (concatenate S4096x64 1 [⟨S4096x8, Host.cos a⟩, ⟨S4096x8, Host.cos a⟩,
    ⟨S4096x48, addf zeros (broadcastInDim S4096x48 ![] bcast_S_S4096x48 (constant S_ .f32 0x3F800000#32))⟩]
    concatenates_S4096x8_S4096x8_S4096x48_S4096x64_d1)

/-- The factors of the feature eight further on. -/
def further (a : FVec Ideal S4096x8 .f32) : FVec Ideal S4096x256 .f32 :=
  fourfold (concatenate S4096x64 1 [⟨S4096x8, Host.negf (Host.sin a)⟩,
    ⟨S4096x8, broadcastInDim S4096x8 ![] bcast_S_S4096x8 (constant S_ .f32 0x00000000#32)⟩, ⟨S4096x48, zeros⟩]
    concatenates_S4096x8_S4096x8_S4096x48_S4096x64_d1)

/-- The factors of the feature eight before. -/
def earlier (a : FVec Ideal S4096x8 .f32) : FVec Ideal S4096x256 .f32 :=
  fourfold (concatenate S4096x64 1 [⟨S4096x8, broadcastInDim S4096x8 ![] bcast_S_S4096x8 (constant S_ .f32 0x00000000#32)⟩,
    ⟨S4096x8, Host.sin a⟩, ⟨S4096x48, zeros⟩] concatenates_S4096x8_S4096x8_S4096x48_S4096x64_d1)

/-- Operations in two stretches: the second starts from what the first leaves. -/
theorem after_stretches (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l₁ ih => simp only [List.cons_append, StableHlo.after_cons, ih]

/-- The host operations up to the cosines and sines of the angles. -/
def opsAngles : List (HloOp τ sig (Elt Ideal)) := hostOps0.take 24

/-- The host operations from there on, which lay the tables out. -/
def opsTables : List (HloOp τ sig (Elt Ideal)) := hostOps0.drop 24

theorem entry_eq (c : Dev nD) (b : Ref sig .tc) :
    V m c b = StableHlo.after opsTables (StableHlo.after opsAngles (fun b => m (c, b))) b := by
  rw [← after_stretches]
  unfold opsAngles opsTables
  rw [List.take_append_drop]

set_option maxHeartbeats 1000000 in
theorem cosines (c : Dev nD) :
    StableHlo.after opsAngles (fun b => m (c, b)) (Proc.devRef .tc main_v18) = Host.cos (angle m c) := by
  simp only [opsAngles, hostOps0, List.take_succ_cons, List.take_zero]
  after_results_simp
  rfl

set_option maxHeartbeats 1000000 in
theorem sines (c : Dev nD) :
    StableHlo.after opsAngles (fun b => m (c, b)) (Proc.devRef .tc main_v19) = Host.sin (angle m c) := by
  simp only [opsAngles, hostOps0, List.take_succ_cons, List.take_zero]
  after_results_simp
  rfl

set_option maxHeartbeats 1000000 in
theorem own_eq (c : Dev nD) : V m c main_v31 = own (angle m c) := by
  rw [entry_eq]
  have h := cosines m c
  generalize StableHlo.after opsAngles (fun b => m (c, b)) = σ at h ⊢
  unfold own
  rw [← h]
  simp only [opsTables, hostOps0, List.drop_succ_cons, List.drop_zero]
  after_results_simp
  rfl

set_option maxHeartbeats 1000000 in
theorem further_eq (c : Dev nD) : V m c main_v34 = further (angle m c) := by
  rw [entry_eq]
  have h := sines m c
  generalize StableHlo.after opsAngles (fun b => m (c, b)) = σ at h ⊢
  unfold further
  rw [← h]
  simp only [opsTables, hostOps0, List.drop_succ_cons, List.drop_zero]
  after_results_simp
  rfl

set_option maxHeartbeats 1000000 in
theorem earlier_eq (c : Dev nD) : V m c main_v37 = earlier (angle m c) := by
  rw [entry_eq]
  have h := sines m c
  generalize StableHlo.after opsAngles (fun b => m (c, b)) = σ at h ⊢
  unfold earlier
  rw [← h]
  simp only [opsTables, hostOps0, List.drop_succ_cons, List.drop_zero]
  after_results_simp
  rfl

variable (a : FVec Ideal S4096x8 .f32) (s : Fin 4096) (q : Fin 256)

theorem own_first (h : q.val % 64 < 8) : own a (ix2 s q) = (Host.cos a (ix2 s ⟨q.val % 64, h⟩) : EReal) := by
  pointwise [own, fourfold, zeros, h]

theorem own_next (h : 8 ≤ q.val % 64) (h' : q.val % 64 < 16) : own a (ix2 s q) = (Host.cos a (ix2 s ⟨q.val % 64 - 8, by omega⟩) : EReal) := by
  pointwise [own, fourfold, zeros, h]
  simp only [show ¬ q.val % 64 < 8 by omega, show q.val % 64 - 8 < 8 by omega, ↓reduceDIte]

theorem own_rest (h : 16 ≤ q.val % 64) : own a (ix2 s q) = (1 : EReal) := by
  pointwise [own, fourfold, zeros, h]
  simp only [show ¬ q.val % 64 < 8 by omega, show ¬ q.val % 64 - 8 < 8 by omega, ↓reduceDIte]

theorem further_first (h : q.val % 64 < 8) : further a (ix2 s q) = (- (Host.sin a (ix2 s ⟨q.val % 64, h⟩) : EReal) : EReal) := by
  pointwise [further, fourfold, zeros, h]

theorem further_rest (h : 8 ≤ q.val % 64) : further a (ix2 s q) = (0 : EReal) := by
  pointwise [further, fourfold, zeros, h]
  simp only [show ¬ q.val % 64 < 8 by omega, ↓reduceDIte]
  split <;> rfl

theorem earlier_first (h : q.val % 64 < 8) : earlier a (ix2 s q) = (0 : EReal) := by
  pointwise [earlier, fourfold, zeros, h]

theorem earlier_next (h : 8 ≤ q.val % 64) (h' : q.val % 64 < 16) : earlier a (ix2 s q) = (Host.sin a (ix2 s ⟨q.val % 64 - 8, by omega⟩) : EReal) := by
  pointwise [earlier, fourfold, zeros, h]
  simp only [show ¬ q.val % 64 < 8 by omega, show q.val % 64 - 8 < 8 by omega, ↓reduceDIte]

theorem earlier_rest (h : 16 ≤ q.val % 64) : earlier a (ix2 s q) = (0 : EReal) := by
  pointwise [earlier, fourfold, zeros, h]
  simp only [show ¬ q.val % 64 < 8 by omega, show ¬ q.val % 64 - 8 < 8 by omega, ↓reduceDIte]

end tables

end Cert.ProjAProof

end
-- ==== Proof.ProjAValue.lean ====
/- What the attention layers' input projection (ProjA) leaves in its three result arrays: the queries and keys turned by
   the rotary embedding, and the values, each laid out by pairs of heads. -/
module

public import proofs.«01_k».proof.Proof.ProjABlock
public import proofs.«01_k».proof.Proof.ProjARotary
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjAProof

open Cert.ProjAIdeal Cert.ProjAIdeal.Gen

/-- A feature times its own factor, with the products of the features eight further on and eight before, is the rotary
    embedding's feature: where the embedding takes no such product, the factor is zero. -/
theorem rotary (x : FVec Ideal Cert.ProjARefIdeal.S8x4096x16x64 .f32) (a : FVec Ideal S4096x8 .f32) (b : Fin 8) (s : Fin 4096)
    (i : Fin 16) (u : Fin 64) (q : Fin 256) (hq : q.val % 64 = u.val) (y₀ y₁ y₂ : EReal) (h₀ : y₀ = x (ix4 b s i u))
    (h₁ : ∀ h : u.val < 8, y₁ = x (ix4 b s i ⟨u.val + 8, by omega⟩))
    (h₂ : 8 ≤ u.val → y₂ = x (ix4 b s i ⟨u.val - 8, by omega⟩)) :
    y₀ * (own a (ix2 s q) : EReal) + y₁ * (further a (ix2 s q) : EReal) + y₂ * (earlier a (ix2 s q) : EReal)
      = rope x a (ix4 b s i u) := by
  subst h₀
  rcases Nat.lt_or_ge u.val 8 with hu | hu
  · rw [own_first a s q (by omega), further_first a s q (by omega), earlier_first a s q (by omega), rope_first x a b s i u hu, h₁ hu,
      mul_zero, add_zero, mul_neg, ← sub_eq_add_neg]
    simp only [hq]
  · rcases Nat.lt_or_ge u.val 16 with hv | hv
    · rw [own_next a s q (by omega) (by omega), further_rest a s q (by omega), earlier_next a s q (by omega) (by omega),
        rope_next x a b s i u hu hv, h₂ hu, mul_zero, add_zero]
      simp only [hq]
    · rw [own_rest a s q (by omega), further_rest a s q (by omega), earlier_rest a s q (by omega), rope_rest x a b s i u hv,
        mul_one, mul_zero, mul_zero, add_zero, add_zero]

variable (m : (ℓ : Loc nD τ sig) → Buf (Elt Ideal) ℓ)

/-- The product of the argument rows with the argument weights, by heads. -/
def product (c : Dev nD) : FVec Ideal Cert.ProjARefIdeal.S8x4096x3x16x64 .f32 :=
  heads (m ((c : Thread nD τ).loc main_arg0)) (m ((c : Thread nD τ).loc main_arg2))

/-- The queries. -/
def result_queries (c : Dev nD) : FVec Ideal S8x8x4096x128 .f32 :=
  queriesOf (m ((c : Thread nD τ).loc main_arg0)) (m ((c : Thread nD τ).loc main_arg1)) (m ((c : Thread nD τ).loc main_arg2))

/-- The keys. -/
def result_keys (c : Dev nD) : FVec Ideal S8x8x4096x128 .f32 :=
  keysOf (m ((c : Thread nD τ).loc main_arg0)) (m ((c : Thread nD τ).loc main_arg1)) (m ((c : Thread nD τ).loc main_arg2))

/-- The values. -/
def result_values (c : Dev nD) : FVec Ideal S8x8x4096x128 .f32 :=
  valuesOf (m ((c : Thread nD τ).loc main_arg0)) (m ((c : Thread nD τ).loc main_arg2))

theorem idx : ∀ t : Fin cfg0.N, win0_0.index t = ![t.val, 0] ∧ win0_1.index t = ![0, 0]
    ∧ win0_2.index t = ![t.val % 8, 0] ∧ win0_3.index t = ![t.val % 8, 0] ∧ win0_4.index t = ![t.val % 8, 0]
    ∧ win0_5.index t = ![t.val / 8, 0, t.val % 8, 0] ∧ win0_6.index t = ![t.val / 8, 0, t.val % 8, 0]
    ∧ win0_7.index t = ![t.val / 8, 0, t.val % 8, 0] :=
  (by decide +kernel : ∀ t : Fin grid0.N, _)

/-- The row of the tables that row `r` of point `t` uses. -/
def place (t : Fin cfg0.N) (r : Fin 512) : Fin 4096 := ⟨t.val % 8 * 512 + r.val, by omega⟩

theorem own_block (c : Dev nD) (t : Fin cfg0.N) (r : Fin 512) (q : Fin 256) :
    iblk m c 2 t (ix2 r q) = own (angle m c) (ix2 (place t r) q) := by
  blk_simp [iblk]
  refine (congrFun (own_eq m c) _).trans ?_
  blk_ext [idx t, place]

theorem further_block (c : Dev nD) (t : Fin cfg0.N) (r : Fin 512) (q : Fin 256) :
    iblk m c 3 t (ix2 r q) = further (angle m c) (ix2 (place t r) q) := by
  blk_simp [iblk]
  refine (congrFun (further_eq m c) _).trans ?_
  blk_ext [idx t, place]

theorem earlier_block (c : Dev nD) (t : Fin cfg0.N) (r : Fin 512) (q : Fin 256) :
    iblk m c 4 t (ix2 r q) = earlier (angle m c) (ix2 (place t r) q) := by
  blk_simp [iblk]
  refine (congrFun (earlier_eq m c) _).trans ?_
  blk_ext [idx t, place]

/-- The sequence of the rows of point `t`. -/
def sequence (t : Fin cfg0.N) : Fin 8 := ⟨t.val / 8, by have h : t.val < 64 := t.2; omega⟩

/-- An entry of the point's product is an entry of the whole product. -/
theorem dot_block (c : Dev nD) (t : Fin cfg0.N) (r : Fin 512) (j : Fin 3) (i : Fin 16) (u : Fin 64) (n : Fin 3072)
    (hn : n.val = j.val * 1024 + i.val * 64 + u.val) :
    dotAt (iblk m c 0 t) (iblk m c 1 t) r n = product m c (ix5 (sequence t) (place t r) j i u) := by
  pointwise [dotAt, product, heads]
  blk_point [iblk, idx t, sequence, place]

/-- The feature of its head that lane `l` of a pair holds. -/
def feature (l : Fin 128) : Fin 64 := ⟨l.val % 64, by omega⟩

/-- The head that lane `l` of pair `p` belongs to. -/
def head (p : Fin 8) (l : Fin 128) : Fin 16 := ⟨p.val * 2 + l.val / 64, by omega⟩

theorem query_part (x : FVec Ideal Cert.ProjARefIdeal.S8x4096x3x16x64 .f32) (b : Fin 8) (s : Fin 4096) (i : Fin 16) (u : Fin 64) :
    queryPart x (ix4 b s i u) = x (ix5 b s 0 i u) := by
  pointwise [queryPart]

theorem key_part (x : FVec Ideal Cert.ProjARefIdeal.S8x4096x3x16x64 .f32) (b : Fin 8) (s : Fin 4096) (i : Fin 16) (u : Fin 64) :
    keyPart x (ix4 b s i u) = x (ix5 b s 1 i u) := by
  pointwise [keyPart]

theorem value_part (x : FVec Ideal Cert.ProjARefIdeal.S8x4096x3x16x64 .f32) (b : Fin 8) (s : Fin 4096) (i : Fin 16) (u : Fin 64) :
    valuePart x (ix4 b s i u) = x (ix5 b s 2 i u) := by
  pointwise [valuePart]

/-- A block's turned entry is the rotary embedding's entry. -/
theorem turn_block (c : Dev nD) (t : Fin cfg0.N) (part : Fin 2) (x : FVec Ideal Cert.ProjARefIdeal.S8x4096x16x64 .f32)
    (hx : ∀ b s i u, x (ix4 b s i u) = product m c (ix5 b s ⟨part.val, by omega⟩ i u)) (p : Fin 8) (r : Fin 512) (l : Fin 128) :
    turnAt part (iblk m c 0 t) (iblk m c 1 t) (iblk m c 2 t) (iblk m c 3 t) (iblk m c 4 t) p r l
      = rope x (angle m c) (ix4 (sequence t) (place t r) (head p l) (feature l)) := by
  unfold turnAt
  rw [own_block m c t r (lane p l), further_block m c t r (lane p l), earlier_block m c t r (lane p l)]
  refine rotary x (angle m c) (sequence t) (place t r) (head p l) (feature l) (lane p l) (by simp only [lane, feature]; omega) _ _ _
    ?_ (fun h => ?_) (fun h => ?_)
  · rw [hx]
    exact dot_block m c t r _ _ _ _ (by simp only [head, feature]; omega)
  · rw [hx]
    exact dot_block m c t r _ _ _ _ (by simp only [head, feature] at h ⊢; omega)
  · rw [hx]
    exact dot_block m c t r _ _ _ _ (by simp only [head, feature] at h ⊢; omega)

/-- The heads by pairs, read at an index. -/
theorem laidOut_at (x : FVec Ideal Cert.ProjARefIdeal.S8x4096x16x64 .f32) (b : Fin 8) (p : Fin 8) (s : Fin 4096) (l : Fin 128) :
    laidOut x (ix4 b p s l) = x (ix4 b s (head p l) (feature l)) := by
  pointwise [laidOut, head, feature]

theorem queries_index (t : Fin cfg0.N) (y : S1x8x512x128.Idx) :
    (((cfg0.win 5).blk t).view.emb y : S8x8x4096x128.Idx) = ix4 (sequence t) (y 1) (place t (y 2)) (y 3) := by
  blk_ext [idx t, sequence, place]

theorem keys_index (t : Fin cfg0.N) (y : S1x8x512x128.Idx) :
    (((cfg0.win 6).blk t).view.emb y : S8x8x4096x128.Idx) = ix4 (sequence t) (y 1) (place t (y 2)) (y 3) := by
  blk_ext [idx t, sequence, place]

theorem values_index (t : Fin cfg0.N) (y : S1x8x512x128.Idx) :
    (((cfg0.win 7).blk t).view.emb y : S8x8x4096x128.Idx) = ix4 (sequence t) (y 1) (place t (y 2)) (y 3) := by
  blk_ext [idx t, sequence, place]

theorem queries_point (c : Dev nD) (t : Fin cfg0.N) (y : S1x8x512x128.Idx) :
    out0_5 (iblk m c 0 t) (iblk m c 1 t) (iblk m c 2 t) (iblk m c 3 t) (iblk m c 4 t) y
      = result_queries m c (((cfg0.win 5).blk t).view.emb y) := by
  rw [queries, turn_block m c t 0 _ (fun b s i u => query_part _ b s i u) (y 1) (y 2) (y 3)]
  refine Eq.trans ?_ (congrArg (result_queries m c) (queries_index t y)).symm
  exact (laidOut_at (eighth (rope (queryPart (product m c)) (angle m c))) (sequence t) (y 1) (place t (y 2)) (y 3)).symm

theorem keys_point (c : Dev nD) (t : Fin cfg0.N) (y : S1x8x512x128.Idx) :
    out0_6 (iblk m c 0 t) (iblk m c 1 t) (iblk m c 2 t) (iblk m c 3 t) (iblk m c 4 t) y
      = result_keys m c (((cfg0.win 6).blk t).view.emb y) := by
  rw [keys, turn_block m c t 1 _ (fun b s i u => key_part _ b s i u) (y 1) (y 2) (y 3)]
  refine Eq.trans ?_ (congrArg (result_keys m c) (keys_index t y)).symm
  exact (laidOut_at _ (sequence t) (y 1) (place t (y 2)) (y 3)).symm

theorem values_point (c : Dev nD) (t : Fin cfg0.N) (y : S1x8x512x128.Idx) :
    out0_7 (iblk m c 0 t) (iblk m c 1 t) (iblk m c 2 t) (iblk m c 3 t) (iblk m c 4 t) y
      = result_values m c (((cfg0.win 7).blk t).view.emb y) := by
  rw [values]
  refine (dot_block m c t (y 2) 2 (head (y 1) (y 3)) (feature (y 3)) _ (by simp only [head, feature]; omega)).trans ?_
  refine (value_part (product m c) (sequence t) (place t (y 2)) (head (y 1) (y 3)) (feature (y 3))).symm.trans ?_
  refine Eq.trans ?_ (congrArg (result_values m c) (values_index t y)).symm
  exact (laidOut_at (valuePart (product m c)) (sequence t) (y 1) (place t (y 2)) (y 3)).symm

theorem final_queries (c : Dev nD) : (dats m 0 c).arrAt 5 (cfgs 0).N = result_queries m c := by
  refine (dats m 0 c).arrAt_eq_of_covers 5 _ (by decide +kernel) fun t _ y => ?_
  blk_simp
  rw [after0_5]
  exact queries_point m c t y

theorem final_keys (c : Dev nD) : (dats m 0 c).arrAt 6 (cfgs 0).N = result_keys m c := by
  refine (dats m 0 c).arrAt_eq_of_covers 6 _ (by decide +kernel) fun t _ y => ?_
  blk_simp
  rw [after0_6]
  exact keys_point m c t y

theorem final_values (c : Dev nD) : (dats m 0 c).arrAt 7 (cfgs 0).N = result_values m c := by
  refine (dats m 0 c).arrAt_eq_of_covers 7 _ (by decide +kernel) fun t _ y => ?_
  blk_simp
  rw [after0_7]
  exact values_point m c t y

end Cert.ProjAProof

end
-- ==== Proof.ProjAClaims.lean ====
/- The five claims about the call ProjA. -/
module

public import proofs.«01_k».proof.Defs
public import proofs.«01_k».proof.Proof.Gen.ProjA.Frame
public import proofs.«01_k».proof.Proof.ProjAValue

@[expose] public section

set_option maxRecDepth 16384

noncomputable section

namespace Cert.ProjAProof

open Idealize.ShloMosaic Idealize.SL.Sem

attribute [local instance] Cert.ProjA.Gen.facts Cert.ProjAIdeal.Gen.facts Cert.ProjARefIdeal.Gen.facts

theorem frame_kernel : Cert.quiescent_ProjA := fun m ρ _ => Cert.ProjA.Gen.frame m ρ

theorem frame_ideal : Cert.quiescent_ProjAIdeal := fun m ρ _ => Cert.ProjAIdeal.Gen.frame m ρ

/-- The reference is host operations only, and declares no semaphore. -/
theorem frame_reference : Cert.quiescent_ProjARefIdeal := fun m ρ _ =>
  (θ_run Cert.ProjARefIdeal.defs _ _).mono
    (fun r h => ⟨fun c => (h c).2.2.2, sem_eq_zero_of_no_sems (by decide) r.2⟩)
    (Cert.ProjARefIdeal.Value.run (F := Ideal) m ρ)

/-- The idealized kernel is the kernel with no rewrite applied. -/
theorem preserved : Cert.preserves_ProjA_ProjAIdeal := trivial

set_option maxHeartbeats 4000000 in
/-- The kernel's result arrays are the reference's terms over the same arguments. -/
theorem equal : Cert.algebraic_ProjAIdeal_ProjARefIdeal := by
  pair_intro
  · run_from Cert.ProjAIdeal.Gen.run_main m g
  · run_from Cert.ProjARefIdeal.Value.run (F := Ideal) m' g'
    · exact (Cert.ProjAProof.reference_queries m' c _ _ _ (hagree c).1 (hagree c).2.1 (hagree c).2.2).trans
        (Cert.ProjAProof.final_queries m c).symm
    · exact (Cert.ProjAProof.reference_keys m' c _ _ _ (hagree c).1 (hagree c).2.1 (hagree c).2.2).trans
        (Cert.ProjAProof.final_keys m c).symm
    · exact (Cert.ProjAProof.final_values m c).symm

end Cert.ProjAProof

end
-- ==== Proof.LayerNorm.lean ====
/- The layer norm of the trunk as the reference composes it: of a row, minus its mean, over the root of its variance
   plus epsilon, times a gain and plus a bias per feature. -/
module

public import proofs.«01_k».proof.Proof.Gen.OutRefIdeal
public import Idealize.ShloMosaic.Lib.Pointwise

@[expose] public section

set_option maxRecDepth 16384

noncomputable section

open Idealize.ShloMosaic

namespace Cert.Trunk

open Cert.OutRefIdeal Cert.OutRefIdeal.Gen

/-- The mean of every row, as one column. -/
def rowMean (z : FVec Ideal S32768x1024 .f32) : FVec Ideal S32768x1 .f32 :=
  Host.divf (broadcastInDim S32768x1 ![0] bcast_S32768_S32768x1_0
      (Host.reduceAdd z (constant S_ .f32 0x00000000#32) reducesTo_S32768x1024_S32768_d1 h_S_))
    (broadcastInDim S32768x1 ![] bcast_S_S32768x1 (constant S_ .f32 0x44800000#32))

/-- Every row minus its mean. -/
def centred (z : FVec Ideal S32768x1024 .f32) : FVec Ideal S32768x1024 .f32 :=
  subf z (broadcastInDim S32768x1024 ![0, 1] bcast_S32768x1_S32768x1024_0_1 (rowMean z))

/-- A vector over the features, repeated for every row. -/
def perFeature (g : FVec Ideal S1024 .f32) : FVec Ideal S32768x1024 .f32 :=
  broadcastInDim S32768x1024 ![0, 1] bcast_S1x1024_S32768x1024_0_1 (broadcastInDim S1x1024 ![1] bcast_S1024_S1x1024_1 g)

/-- The layer norm of every row of `z`, with gain `g` and bias `b`. -/
def layerNorm (z : FVec Ideal S32768x1024 .f32) (g b : FVec Ideal S1024 .f32) : FVec Ideal S32768x1024 .f32 :=
  addf (mulf (mulf (centred z) (broadcastInDim S32768x1024 ![0, 1] bcast_S32768x1_S32768x1024_0_1
      (Host.rsqrt (addf (rowMean (mulf (centred z) (centred z)))
        (broadcastInDim S32768x1 ![] bcast_S_S32768x1 (constant S_ .f32 0x3727C5AC#32))))))
    (perFeature g)) (perFeature b)

/-- The residual rows, scaled, plus what the sublayer adds. -/
def skipped (h y : FVec Ideal S32768x1024 .f32) : FVec Ideal S32768x1024 .f32 :=
  addf (mulf (broadcastInDim S32768x1024 ![] bcast_S_S32768x1024 (constant S_ .f32 0x3FD744FD#32)) h) y

end Cert.Trunk

end
-- ==== Proof.OutValue.lean ====
/- What the output projection with its layer norm (Out) leaves in its two result arrays. -/
module

public import proofs.«01_k».proof.Proof.Gen.OutIdeal.Frame
public import proofs.«01_k».proof.Proof.Gen.OutRefIdeal.Run
public import proofs.«01_k».proof.Proof.LayerNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProof

open Cert.OutIdeal Cert.OutIdeal.Gen Cert.Trunk

/-- The layer norm of the scaled residual rows plus the projected rows. -/
def out (y : FVec Ideal S32768x1024 .bf16) (w : FVec Ideal S1024x1024 .f32) (h : FVec Ideal S32768x1024 .f32)
    (g b : FVec Ideal S1024 .f32) : FVec Ideal S32768x1024 .f32 :=
  layerNorm (skipped h (Host.dotGeneral Cert.OutRefIdeal.dot_S32768x1024_S1024x1024_S32768x1024_1_0_0_1_n_n none
    (extf .f32 y Cert.OutRefIdeal.Gen.bitsLt_bf16_f32) w)) g b

variable (m : (ℓ : Loc nD τ sig) → Buf (Elt Ideal) ℓ)

/-- `out` of the argument arrays. -/
def result (c : Dev nD) : FVec Ideal S32768x1024 .f32 :=
  out (m ((c : Thread nD τ).loc main_arg0)) (m ((c : Thread nD τ).loc main_arg1)) (m ((c : Thread nD τ).loc main_arg2))
    (m ((c : Thread nD τ).loc main_arg3)) (m ((c : Thread nD τ).loc main_arg4))

theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] :=
  (by decide +kernel : ∀ t : Fin grid0.N, _)

theorem point (c : Dev nD) (t : Fin cfg0.N) (y) :
    k0_pay1 (iblk m c 0 t) (iblk m c 1 t) (iblk m c 2 t) (iblk m c 3 t) (iblk m c 4 t) y
      = result m c (((cfg0.win 5).blk t).view.emb y) := by
  pointwise [k0_pay1, result, out, layerNorm, skipped, centred, rowMean, perFeature]
  blk_point [iblk, V, idx t]

theorem final (c : Dev nD) : (dats m 0 c).arrAt 5 (cfgs 0).N = result m c := by
  refine (dats m 0 c).arrAt_eq_of_covers 5 _ (by decide +kernel) fun t _ y => ?_
  blk_simp
  rw [after0_5]; frame_out
  exact point m c t y

/-- The second result holds the first, rounded; over the extended reals the two are one. -/
theorem final_half (c : Dev nD) : (dats m 0 c).arrAt 6 (cfgs 0).N = (result m c : FVec Ideal S32768x1024 .bf16) := by
  refine (dats m 0 c).arrAt_eq_of_covers 6 _ (by decide +kernel) fun t _ y => ?_
  blk_simp
  rw [after0_6]; frame_out
  exact point m c t y

end Cert.OutProof

end
-- ==== Proof.OutClaims.lean ====
/- The five claims about the call Out. -/
module

public import proofs.«01_k».proof.Defs
public import proofs.«01_k».proof.Proof.Gen.Out.Frame
public import proofs.«01_k».proof.Proof.OutValue

@[expose] public section

set_option maxRecDepth 16384

noncomputable section

namespace Cert.OutProof

open Idealize.ShloMosaic Idealize.SL.Sem

attribute [local instance] Cert.Out.Gen.facts Cert.OutIdeal.Gen.facts Cert.OutRefIdeal.Gen.facts

theorem frame_kernel : Cert.quiescent_Out := fun m ρ _ => Cert.Out.Gen.frame m ρ

theorem frame_ideal : Cert.quiescent_OutIdeal := fun m ρ _ => Cert.OutIdeal.Gen.frame m ρ

/-- The reference is host operations only, and declares no semaphore. -/
theorem frame_reference : Cert.quiescent_OutRefIdeal := fun m ρ _ =>
  (θ_run Cert.OutRefIdeal.defs _ _).mono
    (fun r h => ⟨fun c => (h c).2.2, sem_eq_zero_of_no_sems (by decide) r.2⟩)
    (Cert.OutRefIdeal.Value.run (F := Ideal) m ρ)

/-- The idealized kernel is the kernel with no rewrite applied. -/
theorem preserved : Cert.preserves_Out_OutIdeal := trivial

/-- The kernel's result arrays are the reference's terms over the same arguments. -/
theorem equal : Cert.algebraic_OutIdeal_OutRefIdeal := by
  pair_intro
  · run_from Cert.OutIdeal.Gen.run_main m g
  · hlo_run
    · exact (Cert.OutProof.final m c).symm
    · exact (Cert.OutProof.final_half m c).symm

end Cert.OutProof

end
-- ==== Proof.OutCValue.lean ====
/- What the output projection with its layer norm (OutC) leaves in its two result arrays. -/
module

public import proofs.«01_k».proof.Proof.Gen.OutCIdeal.Frame
public import proofs.«01_k».proof.Proof.Gen.OutCRefIdeal.Run
public import proofs.«01_k».proof.Proof.LayerNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutCProof

open Cert.OutCIdeal Cert.OutCIdeal.Gen Cert.Trunk

/-- The layer norm of the scaled residual rows plus the projected rows. -/
def out (y : FVec Ideal S32768x2048 .bf16) (w : FVec Ideal S2048x1024 .f32) (h : FVec Ideal S32768x1024 .f32)
    (g b : FVec Ideal S1024 .f32) : FVec Ideal S32768x1024 .f32 :=
  layerNorm (skipped h (Host.dotGeneral Cert.OutCRefIdeal.dot_S32768x2048_S2048x1024_S32768x1024_1_0_0_1_n_n none
    (extf .f32 y Cert.OutCRefIdeal.Gen.bitsLt_bf16_f32) w)) g b

variable (m : (ℓ : Loc nD τ sig) → Buf (Elt Ideal) ℓ)

/-- `out` of the argument arrays. -/
def result (c : Dev nD) : FVec Ideal S32768x1024 .f32 :=
  out (m ((c : Thread nD τ).loc main_arg0)) (m ((c : Thread nD τ).loc main_arg1)) (m ((c : Thread nD τ).loc main_arg2))
    (m ((c : Thread nD τ).loc main_arg3)) (m ((c : Thread nD τ).loc main_arg4))

theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] :=
  (by decide +kernel : ∀ t : Fin grid0.N, _)

theorem point (c : Dev nD) (t : Fin cfg0.N) (y) :
    k0_pay1 (iblk m c 0 t) (iblk m c 1 t) (iblk m c 2 t) (iblk m c 3 t) (iblk m c 4 t) y
      = result m c (((cfg0.win 5).blk t).view.emb y) := by
  pointwise [k0_pay1, result, out, layerNorm, skipped, centred, rowMean, perFeature]
  blk_point [iblk, V, idx t]

theorem final (c : Dev nD) : (dats m 0 c).arrAt 5 (cfgs 0).N = result m c := by
  refine (dats m 0 c).arrAt_eq_of_covers 5 _ (by decide +kernel) fun t _ y => ?_
  blk_simp
  rw [after0_5]; frame_out
  exact point m c t y

/-- The second result holds the first, rounded; over the extended reals the two are one. -/
theorem final_half (c : Dev nD) : (dats m 0 c).arrAt 6 (cfgs 0).N = (result m c : FVec Ideal S32768x1024 .bf16) := by
  refine (dats m 0 c).arrAt_eq_of_covers 6 _ (by decide +kernel) fun t _ y => ?_
  blk_simp
  rw [after0_6]; frame_out
  exact point m c t y

end Cert.OutCProof

end
-- ==== Proof.OutCClaims.lean ====
/- The five claims about the call OutC. -/
module

public import proofs.«01_k».proof.Defs
public import proofs.«01_k».proof.Proof.Gen.OutC.Frame
public import proofs.«01_k».proof.Proof.OutCValue

@[expose] public section

set_option maxRecDepth 16384

noncomputable section

namespace Cert.OutCProof

open Idealize.ShloMosaic Idealize.SL.Sem

attribute [local instance] Cert.OutC.Gen.facts Cert.OutCIdeal.Gen.facts Cert.OutCRefIdeal.Gen.facts

theorem frame_kernel : Cert.quiescent_OutC := fun m ρ _ => Cert.OutC.Gen.frame m ρ

theorem frame_ideal : Cert.quiescent_OutCIdeal := fun m ρ _ => Cert.OutCIdeal.Gen.frame m ρ

/-- The reference is host operations only, and declares no semaphore. -/
theorem frame_reference : Cert.quiescent_OutCRefIdeal := fun m ρ _ =>
  (θ_run Cert.OutCRefIdeal.defs _ _).mono
    (fun r h => ⟨fun c => (h c).2.2, sem_eq_zero_of_no_sems (by decide) r.2⟩)
    (Cert.OutCRefIdeal.Value.run (F := Ideal) m ρ)

/-- The idealized kernel is the kernel with no rewrite applied. -/
theorem preserved : Cert.preserves_OutC_OutCIdeal := trivial

/-- The kernel's result arrays are the reference's terms over the same arguments. -/
theorem equal : Cert.algebraic_OutCIdeal_OutCRefIdeal := by
  pair_intro
  · run_from Cert.OutCIdeal.Gen.run_main m g
  · hlo_run
    · exact (Cert.OutCProof.final m c).symm
    · exact (Cert.OutCProof.final_half m c).symm

end Cert.OutCProof

end
-- ==== Proof.RouteValue.lean ====
/- What the router's product leaves in its result array.  -/
module

public import proofs.«01_k».proof.Proof.Gen.RouteIdeal.Frame
public import proofs.«01_k».proof.Proof.Gen.RouteRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouteProof

open Cert.RouteIdeal Cert.RouteIdeal.Gen

/-- The logits of the groups, then those of the experts, then columns of zeros up to 128. -/
def out (h : FVec Ideal S32768x1024 .f32) (wg : FVec Ideal S1024x8 .f32) (we : FVec Ideal S1024x64 .f32) :
    FVec Ideal S32768x128 .f32 :=
  pad S32768x128 ![0, 0] ![0, 56] ![0, 0]
    (concatenate Cert.RouteRefIdeal.S32768x72 1
      [⟨Cert.RouteRefIdeal.S32768x8, Host.dotGeneral Cert.RouteRefIdeal.dot_S32768x1024_S1024x8_S32768x8_1_0_0_1_n_n none h wg⟩,
       ⟨Cert.RouteRefIdeal.S32768x64, Host.dotGeneral Cert.RouteRefIdeal.dot_S32768x1024_S1024x64_S32768x64_1_0_0_1_n_n none h we⟩]
      Cert.RouteRefIdeal.Gen.concatenates_S32768x8_S32768x64_S32768x72_d1)
    (sitofp .f32 (constantI Cert.RouteRefIdeal.S_ 32 0#32))
    Cert.RouteRefIdeal.Gen.pads_S32768x72_S32768x128_000_0560 Cert.RouteRefIdeal.Gen.h_S_

variable (m : (ℓ : Loc nD τ sig) → Buf (Elt Ideal) ℓ)

/-- `out` of the argument arrays. -/
def result (c : Dev nD) : FVec Ideal S32768x128 .f32 :=
  out (m ((c : Thread nD τ).loc main_arg0)) (m ((c : Thread nD τ).loc main_arg1)) (m ((c : Thread nD τ).loc main_arg2))

theorem idx : ∀ t : Fin cfg0.N, win0_0.index t = ![t.val, 0] ∧ win0_1.index t = ![0, 0] ∧ win0_2.index t = ![t.val, 0] :=
  (by decide +kernel : ∀ t : Fin grid0.N, _)

/-- The two routers' weights side by side, then columns of zeros up to 128. -/
def weights (wg : FVec Ideal S1024x8 .f32) (we : FVec Ideal S1024x64 .f32) : FVec Ideal S1024x128 .f32 :=
  pad S1024x128 ![0, 0] ![0, 56] ![0, 0]
    (concatenate S1024x72 1 [⟨S1024x8, wg⟩, ⟨S1024x64, we⟩] concatenates_S1024x8_S1024x64_S1024x72_d1)
    (sitofp .f32 (constantI S_ 32 0#32)) pads_S1024x72_S1024x128_000_0560 h_S_

/-- The integer zero the padding holds, as a float. -/
theorem zero_word : (FloatOps.sitofp (F := Ideal) .f32 (0#32) : EReal) = 0 := by
  simp [FloatOps.sitofp]

/-- A row times the padded weights is a row of the padded products. -/
theorem row (h : FVec Ideal S32768x1024 .f32) (wg : FVec Ideal S1024x8 .f32) (we : FVec Ideal S1024x64 .f32)
    (r : Fin 32768) (j : Fin 128) :
    ∑ k : Fin 1024, h (ix2 r k) * weights wg we (ix2 k j) = out h wg we (ix2 r j) := by
  pointwise [weights, out]
  by_cases h0 : (j : ℕ) < 72
  · by_cases h1 : (j : ℕ) < 8
    · simp only [dif_pos h0, dif_pos h1]
    · simp only [dif_pos h0, dif_neg h1]
  · simp only [dif_neg h0, zero_word, mul_zero, Finset.sum_const_zero]

/-- What the call's second operand holds when it is launched. -/
theorem padded (c : Dev nD) : V m c main_v1 = weights (m ((c : Thread nD τ).loc main_arg1)) (m ((c : Thread nD τ).loc main_arg2)) := by
  entry_read
  rfl

theorem rows_block (c : Dev nD) (t : Fin cfg0.N) (i : Fin 1024) (k : Fin 1024) (r : Fin 32768) (hr : (r : ℕ) = t.val * 1024 + i) :
    iblk m c 0 t (ix2 i k) = m ((c : Thread nD τ).loc main_arg0) (ix2 r k) := by
  blk_point [iblk, V, idx t]

theorem weights_block (c : Dev nD) (t : Fin cfg0.N) (k : Fin 1024) (j : Fin 128) :
    iblk m c 1 t (ix2 k j) = V m c main_v1 (ix2 k j) := by
  blk_point [iblk, idx t]

theorem point (c : Dev nD) (t : Fin cfg0.N) (y) : k0_pay1 (iblk m c 0 t) (iblk m c 1 t) y
    = result m c (((cfg0.win 2).blk t).view.emb y) := by
  idx_vars y
  have ht : (t : ℕ) < 32 := t.isLt
  have he : ((cfg0.win 2).blk t).view.emb (ix2 y0 y1) = (ix2 (⟨t.val * 1024 + y0.val, by omega⟩ : Fin 32768) y1 : S32768x128.Idx) := by
    blk_point [idx t]
  rw [he, result, ← row]
  pointwise [k0_pay1]
  refine Finset.sum_congr rfl fun k _ => ?_
  rw [rows_block m c t y0 k ⟨t.val * 1024 + y0.val, by omega⟩ rfl, weights_block, padded]

theorem final (c : Dev nD) : (dats m 0 c).arrAt 2 (cfgs 0).N = result m c := by
  refine (dats m 0 c).arrAt_eq_of_covers 2 _ (by decide +kernel) fun t _ y => ?_
  blk_simp
  rw [after0_2]; frame_out
  exact point m c t y

end Cert.RouteProof

end
-- ==== Proof.RouteClaims.lean ====
/- The five claims about the call Route. -/
module

public import proofs.«01_k».proof.Defs
public import proofs.«01_k».proof.Proof.Gen.Route.Frame
public import proofs.«01_k».proof.Proof.RouteValue

@[expose] public section

set_option maxRecDepth 16384

noncomputable section

namespace Cert.RouteProof

open Idealize.ShloMosaic Idealize.SL.Sem

attribute [local instance] Cert.Route.Gen.facts Cert.RouteIdeal.Gen.facts Cert.RouteRefIdeal.Gen.facts

theorem frame_kernel : Cert.quiescent_Route := fun m ρ _ => Cert.Route.Gen.frame m ρ

theorem frame_ideal : Cert.quiescent_RouteIdeal := fun m ρ _ => Cert.RouteIdeal.Gen.frame m ρ

/-- The reference is host operations only, and declares no semaphore. -/
theorem frame_reference : Cert.quiescent_RouteRefIdeal := fun m ρ _ =>
  (θ_run Cert.RouteRefIdeal.defs _ _).mono
    (fun r h => ⟨fun c => (h c).2, sem_eq_zero_of_no_sems (by decide) r.2⟩)
    (Cert.RouteRefIdeal.Value.run (F := Ideal) m ρ)

/-- The idealized kernel is the kernel with no rewrite applied. -/
theorem preserved : Cert.preserves_Route_RouteIdeal := trivial

/-- The kernel's result array is the reference's term over the same arguments. -/
theorem equal : Cert.algebraic_RouteIdeal_RouteRefIdeal := by
  pair_intro
  · run_from Cert.RouteIdeal.Gen.run_main m g
    · exact Cert.RouteIdeal.Gen.V_main_arg1 m c
    · exact Cert.RouteIdeal.Gen.V_main_arg2 m c
  · hlo_run
    exact (congrArg (Cert.RouteProof.out (m ((c.tc : Thread _ _).loc Cert.RouteIdeal.main_arg0))
      (m ((c.tc : Thread _ _).loc Cert.RouteIdeal.main_arg1))) (hagree c).2.2).trans (Cert.RouteProof.final m c).symm

end Cert.RouteProof

end
-- ==== Proof.GatesValue.lean ====
/- What the product for the mLSTM's gates leaves in its result array.  -/
module

public import proofs.«01_k».proof.Proof.Gen.GatesIdeal.Frame
public import proofs.«01_k».proof.Proof.Gen.GatesRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GatesProof

open Cert.GatesIdeal Cert.GatesIdeal.Gen

/-- The gate columns of the product, then columns of zeros up to 128. -/
def out (h : FVec Ideal S32768x1024 .f32) (w : FVec Ideal S1024x3088 .f32) : FVec Ideal S32768x128 .f32 :=
  pad S32768x128 ![0, 0] ![0, 112] ![0, 0]
    (extractStridedSlice Cert.GatesRefIdeal.S32768x16 ![0, 3072]
      (Host.dotGeneral Cert.GatesRefIdeal.dot_S32768x1024_S1024x3088_S32768x3088_1_0_0_1_n_n none h w)
      Cert.GatesRefIdeal.Gen.slices_S32768x3088_S32768x16_0_3072)
    (sitofp .f32 (constantI Cert.GatesRefIdeal.S_ 32 0#32))
    Cert.GatesRefIdeal.Gen.pads_S32768x16_S32768x128_000_01120 Cert.GatesRefIdeal.Gen.h_S_

variable (m : (ℓ : Loc nD τ sig) → Buf (Elt Ideal) ℓ)

/-- `out` of the argument arrays. -/
def result (c : Dev nD) : FVec Ideal S32768x128 .f32 :=
  out (m ((c : Thread nD τ).loc main_arg0)) (m ((c : Thread nD τ).loc main_arg1))

theorem idx : ∀ t : Fin cfg0.N, win0_0.index t = ![t.val, 0] ∧ win0_1.index t = ![0, 0] ∧ win0_2.index t = ![t.val, 0] :=
  (by decide +kernel : ∀ t : Fin grid0.N, _)

/-- The gate columns of the weights, then columns of zeros up to 128. -/
def weights (w : FVec Ideal S1024x3088 .f32) : FVec Ideal S1024x128 .f32 :=
  pad S1024x128 ![0, 0] ![0, 112] ![0, 0]
    (extractStridedSlice S1024x16 ![0, 3072] w slices_S1024x3088_S1024x16_0_3072)
    (sitofp .f32 (constantI S_ 32 0#32)) pads_S1024x16_S1024x128_000_01120 h_S_

/-- The integer zero the padding holds, as a float. -/
theorem zero_word : (FloatOps.sitofp (F := Ideal) .f32 (0#32) : EReal) = 0 := by
  simp [FloatOps.sitofp]

/-- A row times the padded weights is a row of the padded products. -/
theorem row (h : FVec Ideal S32768x1024 .f32) (w : FVec Ideal S1024x3088 .f32) (r : Fin 32768) (j : Fin 128) :
    ∑ k : Fin 1024, h (ix2 r k) * weights w (ix2 k j) = out h w (ix2 r j) := by
  pointwise [weights, out]
  by_cases h0 : (j : ℕ) < 16
  · simp only [dif_pos h0]
  · simp only [dif_neg h0, zero_word, mul_zero, Finset.sum_const_zero]

/-- What the call's second operand holds when it is launched. -/
theorem padded (c : Dev nD) : V m c main_v1 = weights (m ((c : Thread nD τ).loc main_arg1)) := by
  entry_read
  rfl

theorem rows_block (c : Dev nD) (t : Fin cfg0.N) (i : Fin 1024) (k : Fin 1024) (r : Fin 32768) (hr : (r : ℕ) = t.val * 1024 + i) :
    iblk m c 0 t (ix2 i k) = m ((c : Thread nD τ).loc main_arg0) (ix2 r k) := by
  blk_point [iblk, V, idx t]

theorem weights_block (c : Dev nD) (t : Fin cfg0.N) (k : Fin 1024) (j : Fin 128) :
    iblk m c 1 t (ix2 k j) = V m c main_v1 (ix2 k j) := by
  blk_point [iblk, idx t]

theorem point (c : Dev nD) (t : Fin cfg0.N) (y) : k0_pay1 (iblk m c 0 t) (iblk m c 1 t) y
    = result m c (((cfg0.win 2).blk t).view.emb y) := by
  idx_vars y
  have ht : (t : ℕ) < 32 := t.isLt
  have he : ((cfg0.win 2).blk t).view.emb (ix2 y0 y1) = (ix2 (⟨t.val * 1024 + y0.val, by omega⟩ : Fin 32768) y1 : S32768x128.Idx) := by
    blk_point [idx t]
  rw [he, result, ← row]
  pointwise [k0_pay1]
  refine Finset.sum_congr rfl fun k _ => ?_
  rw [rows_block m c t y0 k ⟨t.val * 1024 + y0.val, by omega⟩ rfl, weights_block, padded]

theorem final (c : Dev nD) : (dats m 0 c).arrAt 2 (cfgs 0).N = result m c := by
  refine (dats m 0 c).arrAt_eq_of_covers 2 _ (by decide +kernel) fun t _ y => ?_
  blk_simp
  rw [after0_2]; frame_out
  exact point m c t y

end Cert.GatesProof

end
-- ==== Proof.GatesClaims.lean ====
/- The five claims about the call Gates. -/
module

public import proofs.«01_k».proof.Defs
public import proofs.«01_k».proof.Proof.Gen.Gates.Frame
public import proofs.«01_k».proof.Proof.GatesValue

@[expose] public section

set_option maxRecDepth 16384

noncomputable section

namespace Cert.GatesProof

open Idealize.ShloMosaic Idealize.SL.Sem

attribute [local instance] Cert.Gates.Gen.facts Cert.GatesIdeal.Gen.facts Cert.GatesRefIdeal.Gen.facts

theorem frame_kernel : Cert.quiescent_Gates := fun m ρ _ => Cert.Gates.Gen.frame m ρ

theorem frame_ideal : Cert.quiescent_GatesIdeal := fun m ρ _ => Cert.GatesIdeal.Gen.frame m ρ

/-- The reference is host operations only, and declares no semaphore. -/
theorem frame_reference : Cert.quiescent_GatesRefIdeal := fun m ρ _ =>
  (θ_run Cert.GatesRefIdeal.defs _ _).mono
    (fun r h => ⟨fun c => (h c).2, sem_eq_zero_of_no_sems (by decide) r.2⟩)
    (Cert.GatesRefIdeal.Value.run (F := Ideal) m ρ)

/-- The idealized kernel is the kernel with no rewrite applied. -/
theorem preserved : Cert.preserves_Gates_GatesIdeal := trivial

/-- The kernel's result array is the reference's term over the same arguments. -/
theorem equal : Cert.algebraic_GatesIdeal_GatesRefIdeal := by
  pair_intro
  · run_from Cert.GatesIdeal.Gen.run_main m g
    · exact Cert.GatesIdeal.Gen.V_main_arg1 m c
  · hlo_run
    exact (Cert.GatesProof.final m c).symm

end Cert.GatesProof

end
-- ==== Proof.CombineValue.lean ====
/- What the call that weighs the two experts' rows and norms (Combine) leaves in its two result arrays. -/
module

public import proofs.«01_k».proof.Proof.Gen.CombineIdeal.Frame
public import proofs.«01_k».proof.Proof.Gen.CombineRefIdeal.Run
public import proofs.«01_k».proof.Proof.LayerNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombineProof

open Cert.CombineIdeal Cert.CombineIdeal.Gen Cert.Trunk

/-- A gate column, repeated along the features. -/
def gate (gt : FVec Ideal S32768x2 .f32) (o : Fin 2 → Nat) (h : S32768x2.Slices o Cert.CombineRefIdeal.S32768x1) :
    FVec Ideal S32768x1024 .f32 :=
  broadcastInDim S32768x1024 ![0, 1] Cert.CombineRefIdeal.Gen.bcast_S32768x1_S32768x1024_0_1
    (extractStridedSlice Cert.CombineRefIdeal.S32768x1 o gt h)

/-- The layer norm of the scaled residual rows plus the two experts' rows, each times its gate. -/
def out (h y0 y1 : FVec Ideal S32768x1024 .f32) (gt : FVec Ideal S32768x2 .f32) (g b : FVec Ideal S1024 .f32) :
    FVec Ideal S32768x1024 .f32 :=
  layerNorm (skipped h (addf (mulf y0 (gate gt ![0, 0] Cert.CombineRefIdeal.Gen.slices_S32768x2_S32768x1_0_0))
    (mulf y1 (gate gt ![0, 1] Cert.CombineRefIdeal.Gen.slices_S32768x2_S32768x1_0_1)))) g b

variable (m : (ℓ : Loc nD τ sig) → Buf (Elt Ideal) ℓ)

/-- `out` of the argument arrays. -/
def result (c : Dev nD) : FVec Ideal S32768x1024 .f32 :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![t.val, 0] ∧ win0_7.index t = ![t.val, 0] :=
  (by decide +kernel : ∀ t : Fin grid0.N, _)

theorem point (c : Dev nD) (t : Fin cfg0.N) (y) :
    k0_pay3 (iblk m c 0 t) (iblk m c 1 t) (iblk m c 2 t) (iblk m c 3 t) (iblk m c 4 t) (iblk m c 5 t) y
      = result m c (((cfg0.win 6).blk t).view.emb y) := by
  pointwise [k0_pay3, k0_pay2, r0_0, r0_1, r0_2, result, out, gate, layerNorm, skipped, centred, rowMean, perFeature]
  blk_point [iblk, V, idx t]

theorem final (c : Dev nD) : (dats m 0 c).arrAt 6 (cfgs 0).N = result m c := by
  refine (dats m 0 c).arrAt_eq_of_covers 6 _ (by decide +kernel) fun t _ y => ?_
  blk_simp
  rw [after0_6]; frame_out
  exact point m c t y

/-- The second result holds the first, rounded; over the extended reals the two are one. -/
theorem final_half (c : Dev nD) : (dats m 0 c).arrAt 7 (cfgs 0).N = (result m c : FVec Ideal S32768x1024 .bf16) := by
  refine (dats m 0 c).arrAt_eq_of_covers 7 _ (by decide +kernel) fun t _ y => ?_
  blk_simp
  rw [after0_7]; frame_out
  exact point m c t y

end Cert.CombineProof

end
-- ==== Proof.CombineClaims.lean ====
/- The five claims about the call Combine. -/
module

public import proofs.«01_k».proof.Defs
public import proofs.«01_k».proof.Proof.Gen.Combine.Frame
public import proofs.«01_k».proof.Proof.CombineValue

@[expose] public section

set_option maxRecDepth 16384

noncomputable section

namespace Cert.CombineProof

open Idealize.ShloMosaic Idealize.SL.Sem

attribute [local instance] Cert.Combine.Gen.facts Cert.CombineIdeal.Gen.facts Cert.CombineRefIdeal.Gen.facts

theorem frame_kernel : Cert.quiescent_Combine := fun m ρ _ => Cert.Combine.Gen.frame m ρ

theorem frame_ideal : Cert.quiescent_CombineIdeal := fun m ρ _ => Cert.CombineIdeal.Gen.frame m ρ

/-- The reference is host operations only, and declares no semaphore. -/
theorem frame_reference : Cert.quiescent_CombineRefIdeal := fun m ρ _ =>
  (θ_run Cert.CombineRefIdeal.defs _ _).mono
    (fun r h => ⟨fun c => (h c).2.2, sem_eq_zero_of_no_sems (by decide) r.2⟩)
    (Cert.CombineRefIdeal.Value.run (F := Ideal) m ρ)

/-- The idealized kernel is the kernel with no rewrite applied. -/
theorem preserved : Cert.preserves_Combine_CombineIdeal := trivial

/-- The kernel's result arrays are the reference's terms over the same arguments. -/
theorem equal : Cert.algebraic_CombineIdeal_CombineRefIdeal := by
  pair_intro
  · run_from Cert.CombineIdeal.Gen.run_main m g
  · hlo_run
    · exact (Cert.CombineProof.final m c).symm
    · exact (Cert.CombineProof.final_half m c).symm

end Cert.CombineProof

end
-- ==== Proof.ExpertsIdealRun.lean ====
/- The body of the experts call at one grid point: what it leaves in the output block and in the three
   scratch buffers, in the case where it reloads the expert's weights and in the case where it keeps them. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.ExpertsIdealProof

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of expert numbers, one word per block of rows, as the body is handed it. -/
abbrev table : Memref sig .tc .smem S320 .i32 := Memref.whole main_arg0

/-- Contents of the table on core `c`. -/
abbrev Words (c : Dev nD) : Type := Buf (Elt F) ((table).view.loc (c : Thread nD τ))

/-- The table, readable only: the pipeline keeps the other half of it. -/
abbrev holdsTable (c : Dev nD) (M : Memref sig .tc .smem S320 .i32) (f : Buf (Elt F) (M.view.loc (c : Thread nD τ))) : sProp 𝕄 :=
  M.view.loc (c : Thread nD τ) ↦{fullShare.right} f

/-- The word the body reads at point `i`: the expert of this block of rows. -/
abbrev wordHere (c : Dev nD) (i : grid0.Coords) (f : Words (F := F) c) : BitVec 32 :=
  (table).view.readAt (Elt F) (Rect.unit (s := S320) (k0_off1 i) S1.size (k0_off1_inb i)).toLoadRect f (Shape.Idx.first (numel1_S1.symm ▸ Nat.one_pos))

/-- The word the body reads beside it: the expert of the block of rows before (at the first point, of the first). -/
abbrev wordBefore (c : Dev nD) (i : grid0.Coords) (f : Words (F := F) c) : BitVec 32 :=
  (table).view.readAt (Elt F) (Rect.unit (s := S320) (k0_off2 i) S1.size (k0_off2_inb i)).toLoadRect f (Shape.Idx.first (numel1_S1.symm ▸ Nat.one_pos))

/-- The body reloads the weights: at the first point, and wherever the two words differ. -/
abbrev Reloads (i : grid0.Coords) (u v : BitVec 32) : Prop :=
  (Scalar.cmpi .ne (Scalar.extui (Scalar.ori (Scalar.cmpi .eq (BitVec.ofNat 32 (i 0).val) 0#32) (Scalar.cmpi .ne u v))) 0#32) = 1#1

set_option maxHeartbeats 2000000 in
/-- Where it reloads: the scratches end at the rounded weights of the point's blocks, the output at the expert's
    result on the rows by them. -/
theorem run_reload (c : Dev nD) (i : grid0.Coords) (arg2 : Memref sig .tc .vmem S256x1024 .bf16) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .f32) (harg5 : arg5.IsWhole) (arg6 : Memref sig .tc .vmem S256x1024 .f32) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S256x1024 .bf16) (harg9 : arg9.IsWhole)
    (x0 : Vec F S256x1024 .bf16) (x1 x2 : Vec F S1x1024x256 .f32) (x3 : Vec F S1x256x1024 .f32) (f : Words (F := F) c)
    (h : Reloads i (wordHere c i f) (wordBefore c i f)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ holdsTable c table f
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 x0 (k0_pay1 x1) (k0_pay2 x2) (k0_pay3 x3))
            ∗ owns (c : Thread nD τ) arg7 fullShare (k0_pay1 x1) ∗ owns (c : Thread nD τ) arg8 fullShare (k0_pay2 x2) ∗ owns (c : Thread nD τ) arg9 fullShare (k0_pay3 x3) ∗ holdsTable c table f) -∗ K ⟨⟩))
      ⊢ wp frame (wpE (defs₀ (F := F)) Variants.none c none) E (cc0_moe_experts i table (Memref.isWhole_whole _) arg2 harg2 arg3 harg3 arg4 harg4 arg5 harg5 arg6 harg6 arg7 harg7 arg8 harg8 arg9 harg9) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, Hk⟩
  obtain rfl := harg2.eq_unread hf0; obtain rfl := harg3.eq_unread hf1; obtain rfl := harg4.eq_unread hf2; obtain rfl := harg5.eq_unread hf3
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    unfold run_reload.sl.v12 run_reload.sl.v14 run_reload.sl.v20 run_reload.sl.HS0_1 run_reload.sl.HS1_1 run_reload.sl.HS2_1
    rw [View.read_writes_full, View.readCov_full, View.readCov_full, View.readCov_full, View.readAt_full, View.readAt_full, View.readAt_full, View.readAt_full, hf0, hf1, hf2, hf3]
  isplitl [HS0]
  · iexists _; isplitr; swap; · iexact HS0
    ipureintro
    unfold run_reload.sl.HS0_1
    rw [View.read_writes_full, View.readAt_full, hf1]
  isplitl [HS1]
  · iexists _; isplitr; swap; · iexact HS1
    ipureintro
    unfold run_reload.sl.HS1_1
    rw [View.read_writes_full, View.readAt_full, hf2]
  isplitl [HS2]
  · iexists _; isplitr; swap; · iexact HS2
    ipureintro
    unfold run_reload.sl.HS2_1
    rw [View.read_writes_full, View.readAt_full, hf3]
  iexact HT0

set_option maxHeartbeats 2000000 in
/-- Where it does not reload: the scratches are as they were, and the output is the expert's result on the rows by them. -/
theorem run_keep (c : Dev nD) (i : grid0.Coords) (arg2 : Memref sig .tc .vmem S256x1024 .bf16) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .f32) (harg5 : arg5.IsWhole) (arg6 : Memref sig .tc .vmem S256x1024 .f32) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S256x1024 .bf16) (harg9 : arg9.IsWhole)
    (x0 : Vec F S256x1024 .bf16) (x1 x2 : Vec F S1x1024x256 .f32) (x3 : Vec F S1x256x1024 .f32) (w1 w2 : Vec F S1024x256 .bf16) (w3 : Vec F S256x1024 .bf16) (f : Words (F := F) c)
    (h : ¬ Reloads i (wordHere c i f) (wordBefore c i f)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare w1 ∗ owns (c : Thread nD τ) arg8 fullShare w2 ∗ owns (c : Thread nD τ) arg9 fullShare w3 ∗ holdsTable c table f
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 x0 w1 w2 w3)
            ∗ owns (c : Thread nD τ) arg7 fullShare w1 ∗ owns (c : Thread nD τ) arg8 fullShare w2 ∗ owns (c : Thread nD τ) arg9 fullShare w3 ∗ holdsTable c table f) -∗ K ⟨⟩))
      ⊢ wp frame (wpE (defs₀ (F := F)) Variants.none c none) E (cc0_moe_experts i table (Memref.isWhole_whole _) arg2 harg2 arg3 harg3 arg4 harg4 arg5 harg5 arg6 harg6 arg7 harg7 arg8 harg8 arg9 harg9) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, Hk⟩
  obtain rfl := harg2.eq_unread hf0; obtain rfl := harg3.eq_unread hf1; obtain rfl := harg4.eq_unread hf2; obtain rfl := harg5.eq_unread hf3
  obtain rfl := harg7.eq_unread hs0; obtain rfl := harg8.eq_unread hs1; obtain rfl := harg9.eq_unread hs2
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full, View.readAt_full, View.readAt_full, View.readAt_full, View.readAt_full, hf0, hs0, hs1, hs2]
  isplitl [HS0]
  · iexists _; isplitr; · ipureintro; exact harg7.read_unread _
    iexact HS0
  isplitl [HS1]
  · iexists _; isplitr; · ipureintro; exact harg8.read_unread _
    iexact HS1
  isplitl [HS2]
  · iexists _; isplitr; · ipureintro; exact harg9.read_unread _
    iexact HS2
  iexact HT0

end Cert.ExpertsIdealProof

end
-- ==== Proof.ExpertsIdealFrame.lean ====
/- The run of the experts call as a whole. Between two grid points the three scratch buffers hold the rounded
   weights of the point just left; where the next point names the same expert its weight blocks are the same, so
   at every point the body computes with its own expert's weights, reloaded or kept. -/
module

public import proofs.«01_k».proof.Proof.ExpertsIdealRun

@[expose] public section

set_option maxRecDepth 16384

noncomputable section

namespace Cert.ExpertsIdealProof

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- A buffer of core `c` as the pipeline finds it: as launched, for the program is the pipeline alone. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table as launched. -/
def tbl : pre0.Contents (Elt F) := fun j => V m (0 : Dev nD) (pre0.ref j)

theorem V_table (c : Dev nD) (j : Fin 1) : V m c (pre0.ref j) = tbl m j := by
  obtain rfl : c = 0 := Subsingleton.elim _ _; rfl

/-- Every word of the table names a block inside the weights: what the pipeline asks of it. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The three scratches as memrefs. -/
abbrev scrGate : Memref sig .tc .vmem S1024x256 .bf16 := Memref.whole cc0_scratch0
abbrev scrUp : Memref sig .tc .vmem S1024x256 .bf16 := Memref.whole cc0_scratch1
abbrev scrDown : Memref sig .tc .vmem S256x1024 .bf16 := Memref.whole cc0_scratch2

/-- The rounded weights of point `t`'s expert. -/
def gate (hO : Ok m) (c : Dev nD) (t : Fin (cfgM m hO).N) : Vec F S1024x256 .bf16 := k0_pay1 (iblk m hO c 1 t)
def up (hO : Ok m) (c : Dev nD) (t : Fin (cfgM m hO).N) : Vec F S1024x256 .bf16 := k0_pay2 (iblk m hO c 2 t)
def down (hO : Ok m) (c : Dev nD) (t : Fin (cfgM m hO).N) : Vec F S256x1024 .bf16 := k0_pay3 (iblk m hO c 3 t)

/-- What the scratches hold before point `t` (after point `t - 1`): that point's weights; before the first, anything. -/
abbrev Holds (hO : Ok m) (c : Dev nD) (t : ℕ) (w1 w2 : Vec F S1024x256 .bf16) (w3 : Vec F S256x1024 .bf16) : Prop :=
  ∀ s : Fin (cfgM m hO).N, s.val + 1 = t → w1 = gate m hO c s ∧ w2 = up m hO c s ∧ w3 = down m hO c s

def scratches (hO : Ok m) (c : Dev nD) (t : ℕ) : sProp 𝕄 :=
  iprop(∃ w1, ∃ w2, ∃ w3, ⌜Holds m hO c t w1 w2 w3⌝ ∗ owns (c : Thread nD τ) scrGate fullShare w1 ∗ owns (c : Thread nD τ) scrUp fullShare w2 ∗ owns (c : Thread nD τ) scrDown fullShare w3)

/-- What the body holds beside its blocks, before point `t`. -/
def inv (hO : Ok m) (c : Dev nD) (t : ℕ) : sProp 𝕄 :=
  iprop((scratches m hO c t ∗ (∃ r, prngReg c r)) ∗ holdsTable c table (tbl m 0))

theorem tables_eq (c : Dev nD) : (Pipeline.ΦT pre0 (tbl m) c : sProp 𝕄) = iprop(holdsTable c table (tbl m 0)) := by
  unfold Pipeline.ΦT Pipeline.prefHeld
  rw [show (Finset.univ : Finset (Fin 1)) = {(0 : Fin 1)} from by decide, bigSep_singleton]
  rfl

theorem rest_eq (c : Dev nD) :
    (Pipeline.ΦA spec0 c : sProp 𝕄)
      = iprop(iprop((∃ d, owns (c : Thread nD τ) scrGate fullShare d) ∗ (∃ d, owns (c : Thread nD τ) scrUp fullShare d) ∗ (∃ d, owns (c : Thread nD τ) scrDown fullShare d)) ∗ (∃ r, prngReg c r)) := by
  unfold Pipeline.ΦA; rw [scopedRest0_eq]; simp only [scrGate, scrUp, scrDown, owns_whole]; try rfl

/-- At the start the scratches hold anything, and the invariant asks nothing of them. -/
theorem inv_enter (hO : Ok m) (c : Dev nD) : iprop(Pipeline.ΦA spec0 c ∗ Pipeline.ΦT pre0 (tbl m) c) ⊢ inv m hO c 0 := by
  rw [rest_eq, tables_eq]
  unfold inv scratches
  iintro ⟨⟨⟨⟨%d1, H1⟩, ⟨%d2, H2⟩, ⟨%d3, H3⟩⟩, Hg⟩, HT⟩
  isplitr [HT]
  · isplitr [Hg]
    · iexists d1, d2, d3
      isplitr; · ipureintro; intro s hs; exact absurd hs (Nat.succ_ne_zero _)
      isplitl [H1]; · iexact H1
      isplitl [H2]; · iexact H2
      iexact H3
    iexact Hg
  iexact HT

/-- At the end what they hold is forgotten. -/
theorem inv_leave (hO : Ok m) (c : Dev nD) (t : ℕ) : inv m hO c t ⊢ Pipeline.ΦA spec0 c := by
  rw [rest_eq]
  unfold inv scratches
  iintro ⟨⟨⟨%d1, %d2, %d3, -, H1, H2, H3⟩, Hg⟩, -⟩
  isplitr [Hg]
  · isplitl [H1]; · iexists d1; iexact H1
    isplitl [H2]; · iexists d2; iexact H2
    iexists d3; iexact H3
  iexact Hg

/-! ## The proof data -/

/-- What each window's buffer holds after the body at point `t`: an input its block, the output the expert's
    result on the block of rows. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => k0_pay4 (iblk m hO c 0 t) (gate m hO c t) (up m hO c t) (down m hO c t)
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = k0_pay4 (iblk m hO c 0 t) (gate m hO c t) (up m hO c t) (down m hO c t) := by dsimp only [dats]; try rfl

/-- An input's buffer holds its block when the body runs, fetched at this point or before it. -/
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## Where the weights are kept, they are the point's own -/

/-- A block read at one index is a block read at the other, where the indices agree. -/
theorem block_congr1 (hO : Ok m) (c : Dev nD) (t t' : Fin (cfgM m hO).N) (h : ((cfgM m hO).win 1).index t = ((cfgM m hO).win 1).index t') :
    (iblk m hO c 1 t : Vec F S1x1024x256 .f32) = iblk m hO c 1 t' :=
  (before0_1 m hO c t (fun _ => Classical.arbitrary _)).symm.trans
    ((((dats m hO 0 c).before_in_eq_fetched 1 rfl (fun _ => rfl) (fun _ _ _ => rfl) (fun t => by rw [after0_1]; unfold Dat.blockOf iblk; rw [A_eq]; try rfl) t _).trans
      ((dats m hO 0 c).fetched_congr 1 h rfl _)).trans
        (by unfold Dat.fetched Dat.blockOf iblk; rw [A_eq]; try rfl))
theorem block_congr2 (hO : Ok m) (c : Dev nD) (t t' : Fin (cfgM m hO).N) (h : ((cfgM m hO).win 2).index t = ((cfgM m hO).win 2).index t') :
    (iblk m hO c 2 t : Vec F S1x1024x256 .f32) = iblk m hO c 2 t' :=
  (before0_2 m hO c t (fun _ => Classical.arbitrary _)).symm.trans
    ((((dats m hO 0 c).before_in_eq_fetched 2 rfl (fun _ => rfl) (fun _ _ _ => rfl) (fun t => by rw [after0_2]; unfold Dat.blockOf iblk; rw [A_eq]; try rfl) t _).trans
      ((dats m hO 0 c).fetched_congr 2 h rfl _)).trans
        (by unfold Dat.fetched Dat.blockOf iblk; rw [A_eq]; try rfl))
theorem block_congr3 (hO : Ok m) (c : Dev nD) (t t' : Fin (cfgM m hO).N) (h : ((cfgM m hO).win 3).index t = ((cfgM m hO).win 3).index t') :
    (iblk m hO c 3 t : Vec F S1x256x1024 .f32) = iblk m hO c 3 t' :=
  (before0_3 m hO c t (fun _ => Classical.arbitrary _)).symm.trans
    ((((dats m hO 0 c).before_in_eq_fetched 3 rfl (fun _ => rfl) (fun _ _ _ => rfl) (fun t => by rw [after0_3]; unfold Dat.blockOf iblk; rw [A_eq]; try rfl) t _).trans
      ((dats m hO 0 c).fetched_congr 3 h rfl _)).trans
        (by unfold Dat.fetched Dat.blockOf iblk; rw [A_eq]; try rfl))

/-- The block index of each weight is the point's word, then zeros. -/
theorem index1_eq (hO : Ok m) (c : Dev nD) (t : Fin (cfgM m hO).N) : ((cfgM m hO).win 1).index t = ![(wordHere (F := F) c (grid0.coords t) (tbl m 0)).toNat, 0, 0] := rfl
theorem index2_eq (hO : Ok m) (c : Dev nD) (t : Fin (cfgM m hO).N) : ((cfgM m hO).win 2).index t = ![(wordHere (F := F) c (grid0.coords t) (tbl m 0)).toNat, 0, 0] := rfl
theorem index3_eq (hO : Ok m) (c : Dev nD) (t : Fin (cfgM m hO).N) : ((cfgM m hO).win 3).index t = ![(wordHere (F := F) c (grid0.coords t) (tbl m 0)).toNat, 0, 0] := rfl

/-- The second word is read one place before the first. -/
theorem place_before : ∀ t s : Fin grid0.N, s.val + 1 = t.val → k0_off2 (grid0.coords t) = k0_off1 (grid0.coords s) := by
  have h : ∀ t : Fin grid0.N, 0 < t.val → k0_off2 (grid0.coords t) 0 = t.val - 1 := by decide +kernel
  have h' : ∀ t : Fin grid0.N, k0_off1 (grid0.coords t) 0 = t.val := by decide +kernel
  intro t s hs
  funext a
  obtain rfl : a = 0 := Subsingleton.elim _ _
  rw [h t (by omega), h' s]; omega

theorem wordBefore_eq (c : Dev nD) (f : Words (F := F) c) (t s : Fin grid0.N) (h : s.val + 1 = t.val) :
    wordBefore c (grid0.coords t) f = wordHere c (grid0.coords s) f := by
  have e := place_before t s h
  unfold wordBefore wordHere
  have : ∀ (o o' : Fin 1 → ℕ) (ho : ∀ a, o a + S1.size a ≤ S320.size a) (ho' : ∀ a, o' a + S1.size a ≤ S320.size a), o = o' →
      (table).view.readAt (Elt F) (Rect.unit (s := S320) o S1.size ho).toLoadRect f (Shape.Idx.first (numel1_S1.symm ▸ Nat.one_pos))
        = (table).view.readAt (Elt F) (Rect.unit (s := S320) o' S1.size ho').toLoadRect f (Shape.Idx.first (numel1_S1.symm ▸ Nat.one_pos)) := by
    intro o o' ho ho' e; subst e; rfl
  exact this _ _ _ _ e

/-- Where the body does not reload, it is past the first point and the two words are one. -/
theorem keeps (i : grid0.Coords) (u v : BitVec 32) (h : ¬ Reloads i u v) : (i 0).val ≠ 0 ∧ u = v := by
  by_contra hn
  apply h
  unfold Reloads
  rcases Decidable.not_and_iff_or_not.mp hn with h0 | h0
  · have : (i 0).val = 0 := by simpa using h0
    rw [this]
    have : ∀ b : BitVec 1, Scalar.cmpi .ne (Scalar.extui (Scalar.ori (Scalar.cmpi .eq (BitVec.ofNat 32 0) 0#32) b) : BitVec 32) 0#32 = 1#1 := by decide
    exact this _
  · have e : Scalar.cmpi .ne u v = 1#1 := by
      show IntOp.cmpi .ne u v = 1#1
      rw [WordCmp.cmpi_ne_eq]; simp [h0]
    rw [e]
    have : ∀ b : BitVec 1, Scalar.cmpi .ne (Scalar.extui (Scalar.ori b 1#1) : BitVec 32) 0#32 = 1#1 := by decide
    exact this _

/-- Kept weights are the point's own. -/
theorem kept (hO : Ok m) (c : Dev nD) (t : Fin (cfgM m hO).N) (w1 w2 : Vec F S1024x256 .bf16) (w3 : Vec F S256x1024 .bf16)
    (h : ¬ Reloads (grid0.coords t) (wordHere c (grid0.coords t) (tbl m 0)) (wordBefore c (grid0.coords t) (tbl m 0)))
    (hw : Holds m hO c t.val w1 w2 w3) : w1 = gate m hO c t ∧ w2 = up m hO c t ∧ w3 = down m hO c t := by
  obtain ⟨h0, hu⟩ := keeps _ _ _ h
  have hc : ∀ t : Fin grid0.N, (grid0.coords t 0).val = t.val := by decide +kernel
  rw [hc t] at h0
  have hlt : t.val - 1 < (cfgM m hO).N := lt_of_le_of_lt (Nat.sub_le _ _) t.isLt
  have hs : (⟨t.val - 1, hlt⟩ : Fin (cfgM m hO).N).val + 1 = t.val := by show t.val - 1 + 1 = t.val; omega
  obtain ⟨h1, h2, h3⟩ := hw _ hs
  have hu := hu.trans (wordBefore_eq c (tbl m 0) t _ hs)
  refine ⟨h1.trans ?_, h2.trans ?_, h3.trans ?_⟩
  · exact congrArg k0_pay1 (block_congr1 m hO c t _ ((index1_eq m hO c t).trans ((congrArg (fun x : BitVec 32 => ![x.toNat, 0, 0]) hu).trans (index1_eq m hO c _).symm))).symm
  · exact congrArg k0_pay2 (block_congr2 m hO c t _ ((index2_eq m hO c t).trans ((congrArg (fun x : BitVec 32 => ![x.toNat, 0, 0]) hu).trans (index2_eq m hO c _).symm))).symm
  · exact congrArg k0_pay3 (block_congr3 m hO c t _ ((index3_eq m hO c t).trans ((congrArg (fun x : BitVec 32 => ![x.toNat, 0, 0]) hu).trans (index3_eq m hO c _).symm))).symm

/-! ## The body at any point -/

abbrev ms0_0 (hO : Ok m) (t : Fin (cfgM m hO).N) : Memref sig .tc .vmem S256x1024 .bf16 := spec0_0.stage ((cfgM m hO).slots t 0)
abbrev ms0_1 (hO : Ok m) (t : Fin (cfgM m hO).N) : Memref sig .tc .vmem S1x1024x256 .f32 := spec0_1.stage ((cfgM m hO).slots t 1)
abbrev ms0_2 (hO : Ok m) (t : Fin (cfgM m hO).N) : Memref sig .tc .vmem S1x1024x256 .f32 := spec0_2.stage ((cfgM m hO).slots t 2)
abbrev ms0_3 (hO : Ok m) (t : Fin (cfgM m hO).N) : Memref sig .tc .vmem S1x256x1024 .f32 := spec0_3.stage ((cfgM m hO).slots t 3)
abbrev ms0_4 (hO : Ok m) (t : Fin (cfgM m hO).N) : Memref sig .tc .vmem S256x1024 .f32 := spec0_4.stage ((cfgM m hO).slots t 4)

/-- The body at point `t`, on the buffers the pipeline passes it. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- After point `t` the scratches hold point `t`'s weights. -/
theorem holds_succ (hO : Ok m) (c : Dev nD) (t : Fin (cfgM m hO).N) : Holds m hO c (t.val + 1) (gate m hO c t) (up m hO c t) (down m hO c t) := by
  intro s hs
  obtain rfl : s = t := Fin.ext (by omega)
  exact ⟨rfl, rfl, rfl⟩

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.castSucc = inv m hO c t.val from rfl, show (dats m hO 0 c).Φ t.succ = inv m hO c (t.val + 1) from rfl]
  unfold inv scratches
  by_cases h0 : Reloads (grid0.coords t) (wordHere c (grid0.coords t) (tbl m 0)) (wordBefore c (grid0.coords t) (tbl m 0))
  · iintro ⟨⟨⟨⟨%w1, %w2, %w3, -, HS0, HS1, HS2⟩, Hg⟩, HT0⟩, Ho, ⟨%d0, H0⟩, ⟨%d1, H1⟩, ⟨%d2, H2⟩, ⟨%d3, H3⟩, ⟨%d4, H4⟩⟩
    iapply (run_reload c (grid0.coords t) _ _ _ _ _ _ _ _ _ _ _ _ _ _ _ _ (iblk m hO c 0 t) (iblk m hO c 1 t) (iblk m hO c 2 t) (iblk m hO c 3 t) (tbl m 0) h0 Set.univ _)
    isplitl [H0]; · iexact H0
    isplitl [H1]; · iexact H1
    isplitl [H2]; · iexact H2
    isplitl [H3]; · iexact H3
    isplitl [H4]; · iexists _; iexact H4
    isplitl [HS0]; · iexists _; iexact HS0
    isplitl [HS1]; · iexists _; iexact HS1
    isplitl [HS2]; · iexists _; iexact HS2
    isplitl [HT0]; · iexact HT0
    iintro ⟨H0, H1, H2, H3, H4, HS0, HS1, HS2, HT0⟩
    isplitl [HS0 HS1 HS2 Hg HT0]
    · isplitl [HS0 HS1 HS2 Hg]
      · isplitl [HS0 HS1 HS2]
        · iexists (gate m hO c t), (up m hO c t), (down m hO c t)
          isplitr; · ipureintro; exact holds_succ m hO c t
          isplitl [HS0]; · iexact HS0
          isplitl [HS1]; · iexact HS1
          iexact HS2
        iexact Hg
      iexact HT0
    isplitl [Ho]; · iexact Ho
    isplitl [H0]; · iexact H0
    isplitl [H1]; · iexact H1
    isplitl [H2]; · iexact H2
    isplitl [H3]; · iexact H3
    iexact H4
  · iintro ⟨⟨⟨⟨%w1, %w2, %w3, %hw, HS0, HS1, HS2⟩, Hg⟩, HT0⟩, Ho, ⟨%d0, H0⟩, ⟨%d1, H1⟩, ⟨%d2, H2⟩, ⟨%d3, H3⟩, ⟨%d4, H4⟩⟩
    obtain ⟨rfl, rfl, rfl⟩ := kept m hO c t w1 w2 w3 h0 hw
    iapply (run_keep c (grid0.coords t) _ _ _ _ _ _ _ _ _ _ _ _ _ _ _ _ (iblk m hO c 0 t) (iblk m hO c 1 t) (iblk m hO c 2 t) (iblk m hO c 3 t) (gate m hO c t) (up m hO c t) (down m hO c t) (tbl m 0) h0 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    iintro ⟨H0, H1, H2, H3, H4, HS0, HS1, HS2, HT0⟩
    isplitl [HS0 HS1 HS2 Hg HT0]
    · isplitl [HS0 HS1 HS2 Hg]
      · isplitl [HS0 HS1 HS2]
        · iexists (gate m hO c t), (up m hO c t), (down m hO c t)
          isplitr; · ipureintro; exact holds_succ m hO c t
          isplitl [HS0]; · iexact HS0
          isplitl [HS1]; · iexact HS1
          iexact HS2
        iexact Hg
      iexact HT0
    isplitl [Ho]; · iexact Ho
    isplitl [H0]; · iexact H0
    isplitl [H1]; · iexact H1
    isplitl [H2]; · iexact H2
    isplitl [H3]; · iexact H3
    iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
set_option maxHeartbeats 800000 in
/-- Every execution ends, with every array of the pipeline at what the data above compute, every other buffer as
    launched and every counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_table m)
    (hin := fun c => inv_enter m hO c) (hout := fun c => inv_leave m hO c _)

theorem run_main (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hO)

/-- The five arguments end as launched, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (by decide : main_arg0 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main_quiescent m ρ hO)

end Cert.ExpertsIdealProof

end
-- ==== Proof.ExpertsIdealTable.lean ====
/- The table of experts, under its precondition: each of the 320 words is the number of one of the 64 experts. -/
module

public import proofs.«01_k».proof.Proof.Gen.Pre_experts_named
public import proofs.«01_k».proof.Proof.ExpertsIdealFrame
public import Idealize.ShloMosaic.Lib.Pointwise

@[expose] public section

set_option maxRecDepth 16384

noncomputable section

namespace Cert.ExpertsIdealProof

open Cert.ExpertsIdeal Cert.ExpertsIdeal.Gen
open Idealize.ShloMosaic Idealize.ShloMosaic.TcCoe Idealize.SL.Sem

attribute [local instance] Cert.Pre_experts_named.Gen.facts

variable {F : FTy → Type} [FloatOps F]

/-- The precondition at one entry: the word, read signed, lies from 0 to 63. -/
theorem word_range (e : IVec S320 32) (x : FVec F S81920x1024 .bf16) (g u : FVec F S64x1024x256 .f32) (d : FVec F S64x256x1024 .f32)
    (h : Cert.Pre_experts_named.fn (F := F) e x g u d = fun _ => 1#1) (t : Fin 320) : (e (ix1 t)).toNat < 64 := by
  have h0 := congrFun h (ix1 t)
  unfold Cert.Pre_experts_named.fn at h0
  pointwise at h0
  generalize e (ix1 t) = w at h0 ⊢
  obtain ⟨h1, h2⟩ := IntOp.andi_eq_one.1 h0
  have h1 := IntOp.cmpi_sge.1 h1
  have h2 := IntOp.cmpi_slt.1 h2
  rw [show (0#32 : BitVec 32).toInt = 0 from by decide] at h1
  rw [show (64#32 : BitVec 32).toInt = 64 from by decide] at h2
  rw [BitVec.toInt_eq_toNat_cond] at h1 h2
  split at h1 <;> omega

variable (m : (ℓ : Loc nD τ sig) → Buf (Elt F) ℓ)

/-- The word read at point `i` is the table's entry `i`. -/
theorem wordHere_eq (c : Dev nD) (i : grid0.Coords) (f : Words (F := F) c) (t : Fin 320) (ht : (i 0).val = t.val) :
    wordHere (F := F) c i f = f (ix1 t : S320.Idx) := by
  refine congrArg f (funext fun a => Fin.ext ?_)
  obtain rfl : a = (0 : Fin 1) := Subsingleton.elim (α := Fin 1) _ _
  show k0_off1 i 0 + 0 * 1 = t.val
  rw [k0_off1_eq, ← ht]
  rfl

/-- Every word of the table names a block inside the weights. -/
theorem ok (h : ∀ t : Fin 320, (m (((0 : Dev nD) : Thread nD τ).loc main_arg0) (ix1 t : S320.Idx)).toNat < 64) : Ok m := by
  have hb : ∀ i : grid0.Coords, (wordHere (F := F) 0 i (tbl m 0)).toNat < 64 := fun i => by
    have hi : (i 0).val < 320 := (i 0).isLt
    exact (congrArg BitVec.toNat (wordHere_eq (0 : Dev nD) i (tbl m 0) ⟨_, hi⟩ rfl)).trans_lt (h _)
  have hx : ∀ i : grid0.Coords, ∀ a : Fin 3, ((![(wordHere (F := F) 0 i (tbl m 0)).toNat, 0, 0] : Fin 3 → ℕ) a + 1) * S1x1024x256.size a ≤ S64x1024x256.size a := fun i => by
    have := hb i
    generalize (wordHere (F := F) 0 i (tbl m 0)).toNat = w at this ⊢
    intro a; fin_cases a
    · show (w + 1) * 1 ≤ 64; omega
    · show (0 + 1) * 1024 ≤ 1024; omega
    · show (0 + 1) * 256 ≤ 256; omega
  have hy : ∀ i : grid0.Coords, ∀ a : Fin 3, ((![(wordHere (F := F) 0 i (tbl m 0)).toNat, 0, 0] : Fin 3 → ℕ) a + 1) * S1x256x1024.size a ≤ S64x256x1024.size a := fun i => by
    have := hb i
    generalize (wordHere (F := F) 0 i (tbl m 0)).toNat = w at this ⊢
    intro a; fin_cases a
    · show (w + 1) * 1 ≤ 64; omega
    · show (0 + 1) * 256 ≤ 256; omega
    · show (0 + 1) * 1024 ≤ 1024; omega
  exact ⟨fun i => ⟨hx i, .inl rfl⟩, fun i => ⟨hx i, .inl rfl⟩, fun i => ⟨hy i, .inl rfl⟩⟩

end Cert.ExpertsIdealProof

end
-- ==== Proof.Slab.lean ====
/- A gather of whole slabs: `x[e]` of a three-axis array at a list of numbers, read at an entry. -/
module

public import Idealize.ShloMosaic.Lib.Pointwise

@[expose] public section

noncomputable section

namespace Cert.Slab

open Idealize.ShloMosaic

/-- The dimension numbers of `x[e]` with `x : [N, A, B]` and the numbers as a column `[n, 1]`. -/
abbrev dims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Slab `t` of the result is the slab the `t`-th number names, where that is a slab of `x`. -/
theorem gather_slab {α : Type} {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (p : Fin A) (q : Fin B) (e : Fin N)
    (he : (idx (ix2 t (0 : Fin 1))).toInt.toNat = e.val) :
    Host.gather (dims N A B n wf) x idx (ix3 t p q) = x (ix3 e p q) := by
  unfold Host.gather
  refine congrArg x (funext fun a => Fin.ext ?_)
  show (dims N A B n wf).start (ix3 t p q) idx a + (dims N A B n wf).batchCoord (ix3 t p q) a
      + (dims N A B n wf).offCoord (ix3 t p q) a = (ix3 e p q a).val
  rw [GatherDims.batchCoord_eq_zero _ _ _ List.not_mem_nil, Nat.add_zero]
  match a with
  | ⟨0, _⟩ =>
    have ho : (dims N A B n wf).offCoord (ix3 t p q) (0 : Fin 3) = 0 := by
      unfold GatherDims.offCoord
      exact dif_neg (by decide : (0 : Fin 3) ∉ ([1, 2] : List (Fin 3)))
    have hm : min (idx (ix2 t (0 : Fin 1))).toInt.toNat (N - 1) = e.val := by have := e.isLt; omega
    have hi : (dims N A B n wf).siIdx (ix3 t p q) ⟨List.idxOf (0 : Fin 3) (dims N A B n wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    have hs : (dims N A B n wf).start (ix3 t p q) idx (0 : Fin 3) = e.val := by
      unfold GatherDims.start
      exact (dif_pos (by decide : (0 : Fin 3) ∈ [(0 : Fin 3)])).trans
        ((congrArg (fun i => min (idx i).toInt.toNat (N - 1)) hi).trans hm)
    exact (congrArg₂ (· + ·) hs ho).trans (Nat.add_zero _)
  | ⟨1, _⟩ =>
    have hs : (dims N A B n wf).start (ix3 t p q) idx (1 : Fin 3) = 0 := by
      unfold GatherDims.start
      exact dif_neg (by decide : (1 : Fin 3) ∉ [(0 : Fin 3)])
    have ho : (dims N A B n wf).offCoord (ix3 t p q) (1 : Fin 3) = p.val := by
      unfold GatherDims.offCoord
      exact (dif_pos (by decide : (1 : Fin 3) ∈ ([1, 2] : List (Fin 3)))).trans rfl
    exact (congrArg₂ (· + ·) hs ho).trans (Nat.zero_add _)
  | ⟨2, _⟩ =>
    have hs : (dims N A B n wf).start (ix3 t p q) idx (2 : Fin 3) = 0 := by
      unfold GatherDims.start
      exact dif_neg (by decide : (2 : Fin 3) ∉ [(0 : Fin 3)])
    have ho : (dims N A B n wf).offCoord (ix3 t p q) (2 : Fin 3) = q.val := by
      unfold GatherDims.offCoord
      exact (dif_pos (by decide : (2 : Fin 3) ∈ ([1, 2] : List (Fin 3)))).trans rfl
    exact (congrArg₂ (· + ·) hs ho).trans (Nat.zero_add _)

end Cert.Slab

end
-- ==== Proof.ExpertsValue.lean ====
/- What the experts' call leaves in its result array. -/
module

public import proofs.«01_k».proof.Proof.ExpertsIdealTable
public import proofs.«01_k».proof.Proof.Slab
public import proofs.«01_k».proof.Proof.Gen.ExpertsRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ExpertsIdealProof

section Reference

open Cert.ExpertsRefIdeal Cert.ExpertsRefIdeal.Gen

/-- The numbers the reference gathers at: a negative one counts from the end. -/
def places (e : IVec S320 32) : IVec S320x1 32 :=
  broadcastInDim S320x1 ![0] bcast_S320_S320x1_0
    (select (cmpi .slt e (broadcastInDim S320 ![] bcast_S_S320 (constantI S_ 32 0#32)))
      (addi e (broadcastInDim S320 ![] bcast_S_S320 (constantI S_ 32 64#32))) e)

/-- A number from 0 to 63 is taken as it is. -/
theorem places_at (e : IVec S320 32) (t : Fin 320) (h : (e (ix1 t)).toNat < 64) :
    (places e (ix2 t (0 : Fin 1))).toInt.toNat = (e (ix1 t)).toNat := by
  unfold places
  pointwise
  generalize e (ix1 t) = w at h ⊢
  have hi : w.toInt = w.toNat := by rw [BitVec.toInt_eq_toNat_cond]; split <;> omega
  have hc : IntOp.cmpi .slt w 0#32 = 0#1 := by
    refine (BitVec.eq_zero_or_eq_one _).resolve_right fun h1 => ?_
    have := IntOp.cmpi_slt.1 h1
    rw [hi, show (0#32 : BitVec 32).toInt = 0 from by decide] at this
    omega
  rw [hc]
  show w.toInt.toNat = w.toNat
  omega

/-- The reference's result from its rows and the gathered weights. -/
def fromSlabs (x : FVec Ideal S81920x1024 .bf16) (g u : FVec Ideal S320x1024x256 .f32) (d : FVec Ideal S320x256x1024 .f32) :
    FVec Ideal S81920x1024 .f32 :=
  shapeCast _ (Host.dotGeneral dot_S320x256x256_S320x256x1024_S320x256x1024_2_1_1_2_0_0 none (mulf (mulf (Host.dotGeneral dot_S320x256x1024_S320x1024x256_S320x256x256_2_1_1_2_0_0 none (shapeCast _ (extf .f32 x bitsLt_bf16_f32) shapeCasts_S81920x1024_S320x256x1024) g) (Host.divf (broadcastInDim S320x256x256 ![] bcast_S_S320x256x256 (constant S_ .f32 0x3F800000#32)) (addf (broadcastInDim S320x256x256 ![] bcast_S_S320x256x256 (constant S_ .f32 0x3F800000#32)) (Host.exp (Host.negf (Host.dotGeneral dot_S320x256x1024_S320x1024x256_S320x256x256_2_1_1_2_0_0 none (shapeCast _ (extf .f32 x bitsLt_bf16_f32) shapeCasts_S81920x1024_S320x256x1024) g)))))) (Host.dotGeneral dot_S320x256x1024_S320x1024x256_S320x256x256_2_1_1_2_0_0 none (shapeCast _ (extf .f32 x bitsLt_bf16_f32) shapeCasts_S81920x1024_S320x256x1024) u)) d) shapeCasts_S320x256x1024_S81920x1024

/-- The reference's result: each block of 256 rows by its expert's weights. -/
def out (e : IVec S320 32) (x : FVec Ideal S81920x1024 .bf16) (g u : FVec Ideal S64x1024x256 .f32) (d : FVec Ideal S64x256x1024 .f32) :
    FVec Ideal S81920x1024 .f32 :=
  fromSlabs x (Host.gather gather_S64x1024x256_S320x1_S320x1024x256_12_0_n_n_0_1_11024256 g (places e))
    (Host.gather gather_S64x1024x256_S320x1_S320x1024x256_12_0_n_n_0_1_11024256 u (places e))
    (Host.gather gather_S64x256x1024_S320x1_S320x256x1024_12_0_n_n_0_1_12561024 d (places e))

/-- One hidden value: the gate through `silu`, times the second product. -/
def hidden (x : Fin 1024 → EReal) (g u : Fin 1024 → EReal) : EReal :=
  (∑ k, x k * g k) * Ideal.logistic (∑ k, x k * g k) * ∑ k, x k * u k

theorem fromSlabs_at (x : FVec Ideal S81920x1024 .bf16) (g u : FVec Ideal S320x1024x256 .f32) (d : FVec Ideal S320x256x1024 .f32)
    (r : Fin 81920) (j : Fin 1024) (t : Fin 320) (ht : (r : ℕ) / 256 = t) :
    fromSlabs x g u d (ix2 r j)
      = ∑ h : Fin 256, hidden (fun k => x (ix2 r k)) (fun k => g (ix3 t k h)) (fun k => u (ix3 t k h)) * d (ix3 t h j) := by
  have hr : ∀ p : (r : ℕ) / 256 < 320, (⟨(r : ℕ) / 256, p⟩ : Fin 320) = t := fun _ => Fin.ext ht
  have hx : ∀ p : (r : ℕ) / 256 * 256 + (r : ℕ) % 256 < 81920, (⟨(r : ℕ) / 256 * 256 + (r : ℕ) % 256, p⟩ : Fin 81920) = r :=
    fun _ => Fin.ext (by show (r : ℕ) / 256 * 256 + (r : ℕ) % 256 = r; omega)
  pointwise [fromSlabs]
  simp only [hr, hx]
  rfl

theorem out_at (e : IVec S320 32) (x : FVec Ideal S81920x1024 .bf16) (g u : FVec Ideal S64x1024x256 .f32) (d : FVec Ideal S64x256x1024 .f32)
    (r : Fin 81920) (j : Fin 1024) (t : Fin 320) (ht : (r : ℕ) / 256 = t) (w : Fin 64) (hw : (e (ix1 t)).toNat = w) :
    out e x g u d (ix2 r j)
      = ∑ h : Fin 256, hidden (fun k => x (ix2 r k)) (fun k => g (ix3 w k h)) (fun k => u (ix3 w k h)) * d (ix3 w h j) := by
  have hp : (places e (ix2 t (0 : Fin 1))).toInt.toNat = w := (places_at e t (hw ▸ w.isLt)).trans hw
  unfold out
  rw [fromSlabs_at _ _ _ _ r j t ht]
  refine Finset.sum_congr rfl fun h _ => ?_
  rw [show Host.gather gather_S64x256x1024_S320x1_S320x256x1024_12_0_n_n_0_1_12561024 d (places e) (ix3 t h j) = d (ix3 w h j) from
    Slab.gather_slab _ d (places e) t h j w hp]
  have hg : ∀ (v : FVec Ideal S64x1024x256 .f32) (k : Fin 1024), Host.gather gather_S64x1024x256_S320x1_S320x1024x256_12_0_n_n_0_1_11024256 v (places e) (ix3 t k h) = v (ix3 w k h) :=
    fun v k => Slab.gather_slab _ v (places e) t k h w hp
  simp only [hg]

end Reference

section Kernel

open Cert.ExpertsIdeal Cert.ExpertsIdeal.Gen

variable (m : (ℓ : Loc nD τ sig) → Buf (Elt Ideal) ℓ)

/-- `out` of the argument arrays. -/
def result (c : Dev nD) : FVec Ideal S81920x1024 .f32 :=
  out (m ((c : Thread nD τ).loc main_arg0)) (m ((c : Thread nD τ).loc main_arg1)) (m ((c : Thread nD τ).loc main_arg2))
    (m ((c : Thread nD τ).loc main_arg3)) (m ((c : Thread nD τ).loc main_arg4))

/-- The body's result on one block of rows, read at an entry. -/
theorem body_at (x : FVec Ideal S256x1024 .bf16) (g u : FVec Ideal S1x1024x256 .f32) (d : FVec Ideal S1x256x1024 .f32)
    (i : Fin 256) (j : Fin 1024) :
    k0_pay4 (F := Ideal) x (k0_pay1 (F := Ideal) g) (k0_pay2 (F := Ideal) u) (k0_pay3 (F := Ideal) d) (ix2 i j)
      = ∑ h : Fin 256, hidden (fun k => x (ix2 i k)) (fun k => g (ix3 (0 : Fin 1) k h)) (fun k => u (ix3 (0 : Fin 1) k h)) * d (ix3 (0 : Fin 1) h j) := by
  pointwise [k0_pay4, k0_pay1, k0_pay2, k0_pay3]
  rfl

theorem coord : ∀ t : Fin grid0.N, (grid0.coords t 0).val = t.val := by decide +kernel

theorem idx0 : ∀ t : Fin grid0.N, cc0_transform_0 (grid0.coords t) = ![t.val, 0] ∧ cc0_transform_4 (grid0.coords t) = ![t.val, 0] := by decide +kernel

variable (hO : Ok m) (c : Dev nD) (t : Fin (cfgM m hO).N)

theorem index0 : ((cfgM m hO).win 0).index t = ![t.val, 0] := (idx0 t).1
theorem index4 : ((cfgM m hO).win 4).index t = ![t.val, 0] := (idx0 t).2

theorem rows_block (i : Fin 256) (k : Fin 1024) (r : Fin 81920) (hr : (r : ℕ) = t.val * 256 + i) :
    iblk m hO c 0 t (ix2 i k) = m ((c : Thread nD τ).loc main_arg1) (ix2 r k) := by
  blk_point [iblk, V, index0 m hO t]

/-- The word of point `t`, and that it names an expert. -/
theorem index_word (e : Fin 64) (s : Fin 320) (hs : s.val = t.val) (he : (m ((c : Thread nD τ).loc main_arg0) (ix1 s : S320.Idx)).toNat = e) :
    (wordHere (F := Ideal) c (grid0.coords t) (tbl m 0)).toNat = e := by
  refine (congrArg BitVec.toNat (wordHere_eq c (grid0.coords t) (tbl m 0) s ((coord t).trans hs.symm))).trans ?_
  obtain rfl : c = 0 := Subsingleton.elim _ _
  exact he

theorem gate_block (e : Fin 64) (he : (wordHere (F := Ideal) c (grid0.coords t) (tbl m 0)).toNat = e) (k : Fin 1024) (h : Fin 256) :
    iblk m hO c 1 t (ix3 (0 : Fin 1) k h) = m ((c : Thread nD τ).loc main_arg2) (ix3 e k h) := by
  have hi : ((cfgM m hO).win 1).index t = ![e.val, 0, 0] := (index1_eq m hO c t).trans (by rw [he])
  blk_point [iblk, V, hi]

theorem up_block (e : Fin 64) (he : (wordHere (F := Ideal) c (grid0.coords t) (tbl m 0)).toNat = e) (k : Fin 1024) (h : Fin 256) :
    iblk m hO c 2 t (ix3 (0 : Fin 1) k h) = m ((c : Thread nD τ).loc main_arg3) (ix3 e k h) := by
  have hi : ((cfgM m hO).win 2).index t = ![e.val, 0, 0] := (index2_eq m hO c t).trans (by rw [he])
  blk_point [iblk, V, hi]

theorem down_block (e : Fin 64) (he : (wordHere (F := Ideal) c (grid0.coords t) (tbl m 0)).toNat = e) (h : Fin 256) (j : Fin 1024) :
    iblk m hO c 3 t (ix3 (0 : Fin 1) h j) = m ((c : Thread nD τ).loc main_arg4) (ix3 e h j) := by
  have hi : ((cfgM m hO).win 3).index t = ![e.val, 0, 0] := (index3_eq m hO c t).trans (by rw [he])
  blk_point [iblk, V, hi]

variable (hT : ∀ s : Fin 320, (m ((c : Thread nD τ).loc main_arg0) (ix1 s : S320.Idx)).toNat < 64)

include hT in
/-- What the body stores at point `t` is the result's block `t`. -/
theorem point (y) : k0_pay4 (F := Ideal) (iblk m hO c 0 t) (gate m hO c t) (up m hO c t) (down m hO c t) y
    = result m c ((((cfgM m hO).win 4).blk t).view.emb y) := by
  idx_vars y
  have ht : (t : ℕ) < 320 := t.isLt
  have hy : (((cfgM m hO).win 4).blk t).view.emb (ix2 y0 y1) = (ix2 (⟨t.val * 256 + y0.val, by omega⟩ : Fin 81920) y1 : S81920x1024.Idx) := by
    blk_point [index4 m hO t]
  rw [hy]
  have he := index_word m hO c t ⟨_, hT ⟨t.val, ht⟩⟩ ⟨t.val, ht⟩ rfl rfl
  unfold result
  rw [out_at _ _ _ _ _ _ _ ⟨t.val, ht⟩ (by show (t.val * 256 + y0.val) / 256 = t.val; omega) ⟨_, hT ⟨t.val, ht⟩⟩ rfl]
  refine (body_at _ _ _ _ y0 y1).trans (Finset.sum_congr rfl fun h _ => ?_)
  refine Ideal.mul_congr ?_ (down_block m hO c t _ he h y1)
  have hx : (fun k : Fin 1024 => iblk m hO c 0 t (ix2 y0 k)) = fun k => m ((c : Thread nD τ).loc main_arg1) (ix2 (⟨t.val * 256 + y0.val, by omega⟩ : Fin 81920) k) :=
    funext fun k => rows_block m hO c t y0 k _ rfl
  exact congr (congr (congrArg hidden hx) (funext fun k => gate_block m hO c t _ he k h)) (funext fun k => up_block m hO c t _ he k h)

theorem flushes (t : Fin (cfgM m hO).N) : ((cfgM m hO).win 4).flush t = true :=
  (by decide +kernel : ∀ t : Fin grid0.N, Pipeline.Window.flushOf grid0 true cc0_transform_4 t = true) t

/-- Every entry lies in the block of some point. -/
theorem covered (r : Fin 81920) (j : Fin 1024) :
    ∃ t : Fin (cfgM m hO).N, ((cfgM m hO).win 4).flush t = true ∧ (ix2 r j : S81920x1024.Idx) ∈ (((cfgM m hO).win 4).blk t).view.set := by
  obtain ⟨t, ht⟩ : ∃ t : Fin (cfgM m hO).N, t.val = (r : ℕ) / 256 := ⟨⟨(r : ℕ) / 256, by show (r : ℕ) / 256 < 320; omega⟩, rfl⟩
  have hy : (((cfgM m hO).win 4).blk t).view.emb (ix2 (⟨(r : ℕ) % 256, Nat.mod_lt _ (by decide)⟩ : Fin 256) j)
      = (ix2 r j : S81920x1024.Idx) := by
    have hr : (⟨t.val * 256 + (r : ℕ) % 256, by omega⟩ : Fin 81920) = r := Fin.ext (by show t.val * 256 + (r : ℕ) % 256 = r; omega)
    rw [← hr]
    blk_point [index4 m hO t]
  exact ⟨t, flushes m hO t, hy ▸ View.emb_mem_set _ _⟩

include hT in
theorem final : (dats m hO 0 c).arrAt 4 (cfgM m hO).N = result m c := by
  refine (dats m hO 0 c).arrAt_eq_of_emb 4 _ (fun t _ y => ?_) fun i => ?_
  · blk_simp
    rw [after0_4]
    exact point m hO c t hT y
  · exact (congrArg (fun i : S81920x1024.Idx => ∃ t : Fin (cfgM m hO).N, ((cfgM m hO).win 4).flush t = true ∧ i ∈ (((cfgM m hO).win 4).blk t).view.set)
      (eq_ix2 (i : S81920x1024.Idx))).mpr (covered m hO _ _)

end Kernel

end Cert.ExpertsIdealProof

end
-- ==== Proof.ExpertsClaims.lean ====
/- The claims about the call Experts. -/
module

public import proofs.«01_k».proof.Defs
public import proofs.«01_k».proof.Proof.ExpertsTable
public import proofs.«01_k».proof.Proof.ExpertsValue

@[expose] public section

set_option maxRecDepth 16384

noncomputable section

namespace Cert.ExpertsProof

open Idealize.ShloMosaic Idealize.SL.Sem

attribute [local instance] Cert.Experts.Gen.facts Cert.ExpertsIdeal.Gen.facts Cert.ExpertsRefIdeal.Gen.facts Cert.Pre_experts_named.Gen.facts

theorem frame_kernel : Cert.quiescent_Experts := fun m ρ h =>
  Cert.ExpertsProof.frame m ρ (Cert.ExpertsProof.ok m (Cert.ExpertsProof.word_range _ _ _ _ _ (h 0)))

theorem frame_ideal : Cert.quiescent_ExpertsIdeal := fun m ρ h =>
  Cert.ExpertsIdealProof.frame m ρ (Cert.ExpertsIdealProof.ok m (Cert.ExpertsIdealProof.word_range _ _ _ _ _ (h 0)))

/-- The reference is host operations only, and declares no semaphore. -/
theorem frame_reference : Cert.quiescent_ExpertsRefIdeal := fun m ρ _ =>
  (θ_run Cert.ExpertsRefIdeal.defs _ _).mono
    (fun r h => ⟨fun c => (h c).2, sem_eq_zero_of_no_sems (by decide) r.2⟩)
    (Cert.ExpertsRefIdeal.Value.run (F := Ideal) m ρ)

/-- It runs whatever the table holds, so under the precondition too. -/
theorem frame_reference_named : Cert.quiescent_ExpertsRefIdeal_pre_experts_named := fun m ρ _ => frame_reference m ρ trivial

/-- The idealized kernel is the kernel with no rewrite applied. -/
theorem preserved : Cert.preserves_Experts_ExpertsIdeal := trivial

/-- The arguments end as launched, and the result array holds the reference's term over them. -/
theorem run_kernel (m : (ℓ : Loc Cert.ExpertsIdeal.nD Cert.ExpertsIdeal.τ Cert.ExpertsIdeal.sig) → Buf (Elt Ideal) ℓ)
    (g : Dev Cert.ExpertsIdeal.nD → PrngReg) (h : Pre_ExpertsIdeal m) :
    θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
      r.2.mem ((c.tc : Thread Cert.ExpertsIdeal.nD Cert.ExpertsIdeal.τ).loc Cert.ExpertsIdeal.main_v0) = Cert.ExpertsIdealProof.result m c
      ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)) := by
  have hT := fun c => Cert.ExpertsIdealProof.word_range _ _ _ _ _ (h c)
  have hO := Cert.ExpertsIdealProof.ok m (hT 0)
  refine (θ_run (Cert.ExpertsIdeal.defs (F := Ideal)) _ _).mono (fun r hr c => ?_) (Cert.ExpertsIdealProof.run_main_quiescent m g hO)
  refine ⟨((hr.1 c).1 4).trans (Cert.ExpertsIdealProof.final m hO c (hT c)), ?_⟩
  exact ⟨(hr.1 c).2 Cert.ExpertsIdeal.main_arg0 (by decide : Cert.ExpertsIdeal.main_arg0 ∈ Pipeline.restRefs Cert.ExpertsIdeal.sig Cert.ExpertsIdeal.spec0),
    ((hr.1 c).1 0).trans (((Cert.ExpertsIdealProof.dats m hO 0 c).arrAt_in 0 rfl _).trans (Cert.ExpertsIdealProof.A_eq m hO c 0)),
    ((hr.1 c).1 1).trans (((Cert.ExpertsIdealProof.dats m hO 0 c).arrAt_in 1 rfl _).trans (Cert.ExpertsIdealProof.A_eq m hO c 1)),
    ((hr.1 c).1 2).trans (((Cert.ExpertsIdealProof.dats m hO 0 c).arrAt_in 2 rfl _).trans (Cert.ExpertsIdealProof.A_eq m hO c 2)),
    ((hr.1 c).1 3).trans (((Cert.ExpertsIdealProof.dats m hO 0 c).arrAt_in 3 rfl _).trans (Cert.ExpertsIdealProof.A_eq m hO c 3))⟩

/-- The kernel's result array is the reference's term over the same arguments. -/
theorem equal : Cert.algebraic_ExpertsIdeal_ExpertsRefIdeal := fun m g m' g' h ha =>
  ⟨Cert.ExpertsIdealProof.result m, run_kernel m g h,
    (θ_run (Cert.ExpertsRefIdeal.defs (F := Ideal)) _ _).mono (fun r hr c => by
      obtain ⟨h0, h1, h2, h3, h4⟩ := ha c
      refine ⟨(hr c).1.trans ?_, (hr c).2⟩
      rw [h0, h1, h2, h3, h4]
      rfl) (Cert.ExpertsRefIdeal.Value.run (F := Ideal) m' g')⟩

end Cert.ExpertsProof

end
-- ==== Proof.RetState.lean ====
/- What the retention kernel's four scratch arrays and its result's block hold at every point of its grid. -/
module

public import proofs.«01_k».proof.Proof.Gen.RetIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.RetProof

open Cert.RetIdeal Cert.RetIdeal.Gen

/-- The head of point `t`. -/
def headOf (t : Fin cfg0.N) : Fin 4 := ⟨t.val / 16 % 4, Nat.mod_lt _ (by decide)⟩

theorem head_offset : ∀ t : Fin cfg0.N, k0_off1 (grid0.coords t) = ![t.val / 16 % 4] :=
  (by decide +kernel : ∀ t : Fin grid0.N, _)

variable (m : (ℓ : Loc nD τ sig) → Buf (Elt Ideal) ℓ) (c : Dev nD) (t : Fin cfg0.N)

/-- The logarithm of the decay of the point's head. -/
def logDecay : EReal := iblk m c 0 t (ix1 (headOf t))

/-- A column of a table of 128 equal columns. -/
def firstColumn (x : Vec Ideal S256x128 .f32) : Vec Ideal S256x1 .f32 := fun i => x (ix2 (i 0) 0)

theorem first_column (x : Vec Ideal S256x128 .f32) (h) :
    View.ld x (Rect.unit ![0, 0] ![256, 1] h) = firstColumn x := by
  funext y
  refine View.ld_unit_apply_of x _ _ h y (ix2 (y 0) 0) fun a => ?_
  have h1 : (y 1).val = 0 := by have := (y 1).2; exact Nat.lt_one_iff.mp this
  fin_cases a
  · exact (Nat.zero_add _).symm
  · exact (Nat.zero_add _).symm ▸ h1.symm

theorem scalar_load (x : Vec Ideal S4 .f32) (h) (h') :
    View.ld x (Rect.unit (k0_off1 (grid0.coords t)) ![1] h) (Shape.Idx.first h') = x (ix1 (headOf t)) := by
  refine View.ld_unit_apply_of x _ _ h _ (ix1 (headOf t)) fun a => ?_
  fin_cases a
  have e := congrFun (head_offset t) 0
  exact e.symm

theorem decay_load (h) (h') :
    View.ld (iblk m c 0 t) (Rect.unit (s := S4) (k0_off1 (grid0.coords t)) ![1] h) (Shape.Idx.first h') = logDecay m c t :=
  scalar_load t (iblk m c 0 t) h h'

theorem up_filled (x : Vec Ideal S256x128 .f32) :
    (View.whole cc0_scratch2).readCov [⟨Rect.unit ![0, 0] ![256, 128] inb_S256x128_S256x128_0_0, x⟩]
      (Rect.unit ![0, 0] ![256, 1] inb_S256x128_S256x1_0_0).toLoadRect = firstColumn x :=
  (View.readCov_fill _ _ x [] _ (by decide)).trans (first_column x _)

theorem down_filled (x : Vec Ideal S256x128 .f32) :
    (View.whole cc0_scratch3).readCov [⟨Rect.unit ![0, 0] ![256, 128] inb_S256x128_S256x128_0_0, x⟩]
      (Rect.unit ![0, 0] ![256, 1] inb_S256x128_S256x1_0_0).toLoadRect = firstColumn x :=
  (View.readCov_fill _ _ x [] _ (by decide)).trans (first_column x _)

/-- The point's queries, keys and values. -/
def queries : FVec Ideal S256x256 .bf16 := k0_pay10 (iblk m c 5 t) (iblk m c 6 t) (iblk m c 1 t)
def keys : FVec Ideal S256x256 .f32 := k0_pay9 (iblk m c 5 t) (iblk m c 6 t) (iblk m c 2 t)
def values : FVec Ideal S256x512 .bf16 := k0_pay11 (iblk m c 3 t)

/-- The mask and the two factors of the point's head. -/
def mask : Vec Ideal S256x256 .f32 := k0_pay3 (F := Ideal) (logDecay m c t)
def up : Vec Ideal S256x128 .f32 := k0_pay5 (F := Ideal) (logDecay m c t)
def down : Vec Ideal S256x128 .f32 := k0_pay6 (F := Ideal) (logDecay m c t)

/-- The state that a point makes of the state `s` before it. -/
def next (s : Vec Ideal S256x512 .f32) : Vec Ideal S256x512 .f32 :=
  k0_pay12 (logDecay m c t) (keys m c t) (values m c t) s (firstColumn (down m c t))

/-- The block of the result that a point makes of the state `s` before it. -/
def block (s : Vec Ideal S256x512 .f32) : Vec Ideal S1x256x512 .bf16 :=
  k0_pay1 (k0_pay13 (keys m c t) (queries m c t) (values m c t) s (mask m c t) (firstColumn (up m c t)))
    (k0_pay14 (keys m c t) (queries m c t) (values m c t) s (mask m c t) (firstColumn (up m c t))) (iblk m c 7 t) (iblk m c 4 t)

section first

variable (h : t.val % 16 = 0)
include h

theorem first_block : (outsAt0 m c t.val t.isLt).1 = block m c t (k0_pay2 (F := Ideal)) := by
  rw [outsAt0_A m c t h]
  funext y
  frame_out
  simp only [read_unread_whole, first_column, decay_load m c t, up_filled, down_filled]
  exact congrArg (fun z => k0_pay1 (k0_pay13 (keys m c t) (queries m c t) (values m c t) (k0_pay2 (F := Ideal)) (mask m c t) z)
    (k0_pay14 (keys m c t) (queries m c t) (values m c t) (k0_pay2 (F := Ideal)) (mask m c t) z) (iblk m c 7 t) (iblk m c 4 t) y)
    (up_filled (up m c t))

theorem first_state : (outsAt0 m c t.val t.isLt).2.1 = next m c t (k0_pay2 (F := Ideal)) := by
  rw [outsAt0_A m c t h]
  funext y
  frame_out
  simp only [read_unread_whole, first_column, decay_load m c t, up_filled, down_filled]
  unfold next
  refine congrArg (fun z : Vec Ideal S256x1 .f32 => k0_pay12 (F := Ideal) (logDecay m c t) (keys m c t) (values m c t) (k0_pay2 (F := Ideal)) z y) (down_filled (down m c t))

theorem first_mask : (outsAt0 m c t.val t.isLt).2.2.1 = mask m c t := by
  rw [outsAt0_A m c t h]
  funext y
  frame_out
  simp only [decay_load m c t]
  rfl

theorem first_up : (outsAt0 m c t.val t.isLt).2.2.2.1 = up m c t := by
  rw [outsAt0_A m c t h]
  funext y
  frame_out
  simp only [decay_load m c t]
  rfl

theorem first_down : (outsAt0 m c t.val t.isLt).2.2.2.2 = down m c t := by
  rw [outsAt0_A m c t h]
  funext y
  frame_out
  simp only [decay_load m c t]
  rfl

end first

section later

variable (h : ¬ t.val % 16 = 0)
include h

theorem before_lt : t.val - 1 < cfg0.N := lt_of_le_of_lt (Nat.sub_le _ _) t.isLt

theorem later_mask : (outsAt0 m c t.val t.isLt).2.2.1 = (outsAt0 m c (t.val - 1) (before_lt t h)).2.2.1 := by
  rw [outsAt0_B m c t h]
  funext y
  frame_out
  rfl

theorem later_up : (outsAt0 m c t.val t.isLt).2.2.2.1 = (outsAt0 m c (t.val - 1) (before_lt t h)).2.2.2.1 := by
  rw [outsAt0_B m c t h]
  funext y
  frame_out
  rfl

theorem later_down : (outsAt0 m c t.val t.isLt).2.2.2.2 = (outsAt0 m c (t.val - 1) (before_lt t h)).2.2.2.2 := by
  rw [outsAt0_B m c t h]
  funext y
  frame_out
  rfl

theorem later_state (hd : (outsAt0 m c (t.val - 1) (before_lt t h)).2.2.2.2 = down m c t) :
    (outsAt0 m c t.val t.isLt).2.1 = next m c t (outsAt0 m c (t.val - 1) (before_lt t h)).2.1 := by
  unfold next
  rw [← hd, outsAt0_B m c t h]
  funext y
  frame_out
  simp only [read_unread_whole, first_column, decay_load m c t, up_filled, down_filled]
  rfl

theorem later_block (hm : (outsAt0 m c (t.val - 1) (before_lt t h)).2.2.1 = mask m c t)
    (hu : (outsAt0 m c (t.val - 1) (before_lt t h)).2.2.2.1 = up m c t) :
    (outsAt0 m c t.val t.isLt).1 = block m c t (outsAt0 m c (t.val - 1) (before_lt t h)).2.1 := by
  unfold block
  rw [← hm, ← hu, outsAt0_B m c t h]
  funext y
  frame_out
  simp only [read_unread_whole, first_column, decay_load m c t, up_filled, down_filled]
  rfl

end later

end Cert.RetProof

end
-- ==== Proof.RetBlock.lean ====
/- The retention kernel's arithmetic on one chunk of one head, read at an index. -/
module

public import proofs.«01_k».proof.Proof.Gen.RetIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RetProof

open Cert.RetIdeal Cert.RetIdeal.Gen

/-- The mean of 512 numbers. -/
def meanOf (o : Fin 512 → EReal) : EReal := Ideal.div (∑ v, o v) (Ideal.ofBits .f32 0x44000000#32)

/-- The head norm of 512 numbers at `v`, times a gain and times the gate `g` and its logistic function. -/
def gated (o : Fin 512 → EReal) (n g : EReal) (v : Fin 512) : EReal :=
  (o v - meanOf o) * Ideal.rsqrt (meanOf (fun u => (o u - meanOf o) * (o u - meanOf o)) + Ideal.ofBits .f32 0x3727C5AC#32) * n
    * (g * Ideal.logistic g)

variable (k : FVec Ideal S256x256 .f32) (q : FVec Ideal S256x256 .bf16) (v : FVec Ideal S256x512 .bf16) (s : Vec Ideal S256x512 .f32)
  (mask : Vec Ideal S256x256 .f32) (up : Vec Ideal S256x1 .f32)

/-- One entry of a chunk's output before the norm: the masked scores with the chunk's values, plus the product with the
    state. -/
def outAt (r : Fin 256) (u : Fin 512) : EReal :=
  (∑ j : Fin 256, ((∑ d : Fin 256, (q (ix2 r d) : EReal) * k (ix2 j d)) * mask (ix2 r j)) * v (ix2 j u))
    + (up (ix2 r 0) : EReal) * ∑ d : Fin 256, (q (ix2 r d) : EReal) * s (ix2 d u)

theorem centred_at (r : Fin 256) (u : Fin 512) :
    (k0_pay13 k q v s mask up (ix2 r u) : EReal) = outAt k q v s mask up r u - meanOf (outAt k q v s mask up r) := by
  pointwise [k0_pay13, meanOf, outAt]

theorem scale_at (r : Fin 256) (u : Fin 1) :
    (k0_pay14 k q v s mask up (ix2 r u) : EReal) = Ideal.rsqrt (meanOf (fun u => (outAt k q v s mask up r u - meanOf (outAt k q v s mask up r))
      * (outAt k q v s mask up r u - meanOf (outAt k q v s mask up r))) + Ideal.ofBits .f32 0x3727C5AC#32) := by
  unfold k0_pay14
  pointwise [meanOf]
  simp only [centred_at]
  rfl

theorem block_at (n : Vec Ideal S1x512 .f32) (g : Vec Ideal S1x256x512 .f32) (a : Fin 1) (r : Fin 256) (u : Fin 512) :
    (k0_pay1 (k0_pay13 k q v s mask up) (k0_pay14 k q v s mask up) n g (ix3 a r u) : EReal)
      = gated (outAt k q v s mask up r) (n (ix2 0 u)) (g (ix3 0 r u)) u := by
  unfold gated
  rw [← centred_at, ← scale_at k q v s mask up r 0]
  pointwise [k0_pay1]

theorem state_at (l : EReal) (w : Vec Ideal S256x1 .f32) (d : Fin 256) (u : Fin 512) :
    (k0_pay12 (F := Ideal) l k v s w (ix2 d u) : EReal) = Ideal.exp (Ideal.ofBits .f32 0x43800000#32 * l) * s (ix2 d u)
      + ∑ j : Fin 256, ((k (ix2 j d) : EReal) * w (ix2 j 0)) * v (ix2 j u) := by
  pointwise [k0_pay12]

/-- The number of a small difference of two small numbers as words is the difference of the numbers. -/
theorem word_difference (r j : Fin 256) :
    (FloatOps.sitofp (F := Ideal) .f32 (IntOp.subi (BitVec.ofNat 32 r.val) (BitVec.ofNat 32 j.val)) : EReal) = (((r.val : ℝ) - j.val : ℝ) : EReal) := by
  have h : (IntOp.subi (BitVec.ofNat 32 r.val) (BitVec.ofNat 32 j.val)).toInt = (r.val : ℤ) - j.val := by
    have hr := r.2
    have hj := j.2
    simp only [IntOp.subi, BitVec.toInt_sub, BitVec.toInt_ofNat', Int.bmod]
    omega
  refine (congrArg (fun z : ℤ => ((z : ℝ) : EReal)) h).trans ?_
  push_cast
  rfl

/-- The number of a small number as a word. -/
theorem word_number (n r : ℕ) (hn : n < 2 ^ 31) (hr : r = n) :
    (FloatOps.sitofp (F := Ideal) .f32 (BitVec.ofNat 32 r) : EReal) = ((n : ℝ) : EReal) := by
  subst hr
  have h : (BitVec.ofNat 32 r).toInt = (r : ℤ) := by
    simp only [BitVec.toInt_ofNat', Int.bmod]
    omega
  refine (congrArg (fun z : ℤ => ((z : ℝ) : EReal)) h).trans ?_
  push_cast
  rfl

theorem ofBits_255 : Ideal.ofBits .f32 0x437F0000#32 = ((255 : ℝ) : EReal) := by
  simp [Ideal.ofBits, Ideal.ieee]
  rw [← EReal.coe_mul]
  norm_num

/-- The exponential of the positive part of a difference, kept where the difference is not negative. -/
theorem masked_exp (l : EReal) (r j : ℕ) :
    (if (0 : EReal) ≤ (((r : ℝ) - j : ℝ) : EReal) then Ideal.exp (max (((r : ℝ) - j : ℝ) : EReal) 0 * l) else 0)
      = if j ≤ r then Ideal.exp ((((r : ℝ) - j : ℝ) : EReal) * l) else 0 := by
  by_cases h : j ≤ r
  · have h' : (0 : EReal) ≤ (((r : ℝ) - j : ℝ) : EReal) := by
      have h'' : (0 : ℝ) ≤ (r : ℝ) - j := sub_nonneg.mpr (by exact_mod_cast h)
      exact EReal.coe_nonneg.mpr h''
    rw [if_pos h', if_pos h, max_eq_left h']
  · have h' : ¬ (0 : EReal) ≤ (((r : ℝ) - j : ℝ) : EReal) := by
      have : (r : ℝ) - j < 0 := sub_neg.mpr (by exact_mod_cast Nat.lt_of_not_le h)
      exact not_le.mpr (EReal.coe_neg'.mpr this)
    rw [if_neg h', if_neg h]

theorem mask_at (l : EReal) (r j : Fin 256) :
    (k0_pay3 (F := Ideal) l (ix2 r j) : EReal) = if j.val ≤ r.val then Ideal.exp (((((r.val : ℝ) - j.val : ℝ)) : EReal) * l) else 0 := by
  pointwise [k0_pay3]
  rw [word_difference]
  exact masked_exp l r.val j.val

theorem up_at (l : EReal) (r : Fin 256) (j : Fin 128) :
    (k0_pay5 (F := Ideal) l (ix2 r j) : EReal) = Ideal.exp ((((r.val : ℝ) + 1 : ℝ) : EReal) * l) := by
  pointwise [k0_pay5, k0_pay4]
  rw [word_number r.val r.val (by omega) rfl, EReal.coe_add, EReal.coe_one]

theorem down_at (l : EReal) (r : Fin 256) (j : Fin 128) :
    (k0_pay6 (F := Ideal) l (ix2 r j) : EReal) = Ideal.exp ((((255 : ℝ) - r.val : ℝ) : EReal) * l) := by
  pointwise [k0_pay6, k0_pay4]
  rw [word_number r.val r.val (by omega) rfl, EReal.coe_sub, ofBits_255]

theorem zero_at (y) : (k0_pay2 (F := Ideal) y : EReal) = 0 := by
  pointwise [k0_pay2]

theorem values_at (x : Vec Ideal S1x256x512 .f32) (r : Fin 256) (u : Fin 512) : (k0_pay11 x (ix2 r u) : EReal) = x (ix3 0 r u) := by
  pointwise [k0_pay11]

variable (C S : Vec Ideal S256x128 .f32) (x : Vec Ideal S1x256x256 .f32)

/-- A feature of a row turned by its position's angles: the first 128 features with the next 128. -/
def turned (r d : Fin 256) : EReal :=
  if h : d.val < 128 then
    (x (ix3 0 r d) : EReal) * C (ix2 r ⟨d.val, h⟩) - (x (ix3 0 r ⟨d.val + 128, by omega⟩) : EReal) * S (ix2 r ⟨d.val, h⟩)
  else
    (x (ix3 0 r d) : EReal) * C (ix2 r ⟨d.val - 128, by omega⟩)
      + (x (ix3 0 r ⟨d.val - 128, by omega⟩) : EReal) * S (ix2 r ⟨d.val - 128, by omega⟩)

theorem queries_at (r d : Fin 256) : (k0_pay10 C S x (ix2 r d) : EReal) = turned C S x r d := by
  unfold turned
  pointwise [k0_pay10, k0_pay7, k0_pay8]
  by_cases h : d.val < 128
  · simp only [h, ↓reduceDIte, Nat.add_comm]
  · simp only [h, ↓reduceDIte, show 128 + (d.val - 128) = d.val by omega]

theorem keys_at (r d : Fin 256) : (k0_pay9 C S x (ix2 r d) : EReal) = turned C S x r d * Ideal.ofBits .f32 0x3D800000#32 := by
  rw [← queries_at]
  pointwise [k0_pay9, k0_pay10, k0_pay7, k0_pay8]

end Cert.RetProof

end
-- ==== Proof.RetRef.lean ====
/- The retention's reference: its term, named piece by piece and read at an index. -/
module

public import proofs.«01_k».proof.Proof.Gen.RetRefIdeal.Run
public import proofs.«01_k».proof.Proof.RetBlock

@[expose] public section

set_option maxRecDepth 16384

noncomputable section

open Idealize.ShloMosaic Idealize.ShloMosaic.TcCoe Idealize.SL.Sem

namespace Cert.RetProof

open Cert.RetRefIdeal Cert.RetRefIdeal.Gen

/-- The angle of every position for every one of the 128 frequencies. -/
def angles (pos : IVec S4096 32) : FVec Ideal S4096x128 .f32 :=
  mulf (broadcastInDim S4096x128 ![0, 1] bcast_S4096x1_S4096x128_0_1 (broadcastInDim S4096x1 ![0] bcast_S4096_S4096x1_0 (sitofp .f32 pos)))
    (broadcastInDim S4096x128 ![0, 1] bcast_S1x128_S4096x128_0_1 (broadcastInDim S1x128 ![1] bcast_S128_S1x128_1
      (Host.powf (broadcastInDim S128 ![] bcast_S_S128 (constant S_ .f32 0x461C4000#32))
        (Host.divf (Host.negf (addf (broadcastInDim S128 ![] bcast_S_S128 (constant S_ .f32 0x00000000#32))
          (mulf (broadcastInDim S128 ![] bcast_S_S128 (constant S_ .f32 0x40000000#32)) (sitofp .f32 (iotaInDim S128 32 0)))))
          (broadcastInDim S128 ![] bcast_S_S128 (constant S_ .f32 0x43800000#32))))))

/-- The logarithm of every head's decay. -/
def logDecays : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- The projected rows by sequence and position. -/
def rows (x : FVec Ideal S32768x6144 .f32) : FVec Ideal S8x4096x6144 .f32 := shapeCast _ x shapeCasts_S32768x6144_S8x4096x6144

/-- The queries' part. -/
def queryPart (x : FVec Ideal S32768x6144 .f32) : FVec Ideal S8x4096x4x256 .f32 :=
  shapeCast _ (extractStridedSlice S8x4096x1024 ![0, 0, 0] (rows x) slices_S8x4096x6144_S8x4096x1024_0_0_0) shapeCasts_S8x4096x1024_S8x4096x4x256

/-- The keys' part. -/
def keyPart (x : FVec Ideal S32768x6144 .f32) : FVec Ideal S8x4096x4x256 .f32 :=
  shapeCast _ (extractStridedSlice S8x4096x1024 ![0, 0, 1024] (rows x) slices_S8x4096x6144_S8x4096x1024_0_0_1024) shapeCasts_S8x4096x1024_S8x4096x4x256

/-- The values' part. -/
def valuePart (x : FVec Ideal S32768x6144 .f32) : FVec Ideal S8x4096x4x512 .f32 :=
  shapeCast _ (extractStridedSlice S8x4096x2048 ![0, 0, 2048] (rows x) slices_S8x4096x6144_S8x4096x2048_0_0_2048) shapeCasts_S8x4096x2048_S8x4096x4x512

/-- The gates' part. -/
def gatePart (x : FVec Ideal S32768x6144 .f32) : FVec Ideal S8x4096x2048 .f32 :=
  extractStridedSlice S8x4096x2048 ![0, 0, 4096] (rows x) slices_S8x4096x6144_S8x4096x2048_0_0_4096

/-- A table of positions and frequencies, repeated over the sequences and heads. -/
def spread (x : FVec Ideal S4096x128 .f32) : FVec Ideal S8x4096x4x128 .f32 :=
  broadcastInDim S8x4096x4x128 ![0, 1, 2, 3] bcast_S1x4096x1x128_S8x4096x4x128_0_1_2_3
    (broadcastInDim S1x4096x1x128 ![1, 2, 3] bcast_S4096x1x128_S1x4096x1x128_1_2_3
      (broadcastInDim S4096x1x128 ![0, 2] bcast_S4096x128_S4096x1x128_0_2 x))

/-- The first 128 features. -/
def firstHalf (x : FVec Ideal S8x4096x4x256 .f32) : FVec Ideal S8x4096x4x128 .f32 :=
  extractStridedSlice S8x4096x4x128 ![0, 0, 0, 0] x slices_S8x4096x4x256_S8x4096x4x128_0_0_0_0

/-- The next 128 features. -/
def nextHalf (x : FVec Ideal S8x4096x4x256 .f32) : FVec Ideal S8x4096x4x128 .f32 :=
  extractStridedSlice S8x4096x4x128 ![0, 0, 0, 128] x slices_S8x4096x4x256_S8x4096x4x128_0_0_0_128

/-- The rotary embedding: of every head the first 128 features with the next 128 turn by the angles. -/
def rope (x : FVec Ideal S8x4096x4x256 .f32) (a : FVec Ideal S4096x128 .f32) : FVec Ideal S8x4096x4x256 .f32 :=
  concatenate S8x4096x4x256 3
    [⟨S8x4096x4x128, subf (mulf (firstHalf x) (spread (Host.cos a))) (mulf (nextHalf x) (spread (Host.sin a)))⟩,
     ⟨S8x4096x4x128, addf (mulf (nextHalf x) (spread (Host.cos a))) (mulf (firstHalf x) (spread (Host.sin a)))⟩]
    concatenates_S8x4096x4x128_S8x4096x4x128_S8x4096x4x256_d3

/-- Every position's distance from every position. -/
def distance : FVec Ideal S4096x4096 .f32 :=
  subf (broadcastInDim S4096x4096 ![0, 1] bcast_S4096x1_S4096x4096_0_1 (broadcastInDim S4096x1 ![0] bcast_S4096_S4096x1_0 (sitofp .f32 (iotaInDim S4096 32 0))))
    (broadcastInDim S4096x4096 ![0, 1] bcast_S1x4096_S4096x4096_0_1 (broadcastInDim S1x4096 ![1] bcast_S4096_S1x4096_1 (sitofp .f32 (iotaInDim S4096 32 0))))

/-- Every head's weights: the decay of the distance, zero ahead. -/
def weights (l : FVec Ideal S4 .f32) : FVec Ideal S4x4096x4096 .f32 :=
  select (broadcastInDim S4x4096x4096 ![1, 2] bcast_S4096x4096_S4x4096x4096_1_2
      (cmpf .oge distance (broadcastInDim S4096x4096 ![] bcast_S_S4096x4096 (constant S_ .f32 0x00000000#32))))
    (Host.exp (mulf (broadcastInDim S4x4096x4096 ![0, 1, 2] bcast_S1x4096x4096_S4x4096x4096_0_1_2
        (broadcastInDim S1x4096x4096 ![1, 2] bcast_S4096x4096_S1x4096x4096_1_2
          (maximumf distance (broadcastInDim S4096x4096 ![] bcast_S_S4096x4096 (constant S_ .f32 0x00000000#32)))))
      (broadcastInDim S4x4096x4096 ![0, 1, 2] bcast_S4x1x1_S4x4096x4096_0_1_2 (broadcastInDim S4x1x1 ![0] bcast_S4_S4x1x1_0 l))))
    (broadcastInDim S4x4096x4096 ![] bcast_S_S4x4096x4096 (constant S_ .f32 0x00000000#32))

/-- Every head's scores, weighted. -/
def scores (x : FVec Ideal S32768x6144 .f32) (a : FVec Ideal S4096x128 .f32) (l : FVec Ideal S4 .f32) : FVec Ideal S8x4x4096x4096 .f32 :=
  mulf (Host.dotGeneral dot_S8x4x4096x256_S8x4x4096x256_S8x4x4096x4096_3_3_2_2_01_01 none
      (transpose S8x4x4096x256 [0, 2, 1, 3] (rope (queryPart x) a) transposes_S8x4096x4x256_S8x4x4096x256_0_2_1_3)
      (transpose S8x4x4096x256 [0, 2, 1, 3] (mulf (rope (keyPart x) a)
        (broadcastInDim S8x4096x4x256 ![] bcast_S_S8x4096x4x256 (constant S_ .f32 0x3D800000#32))) transposes_S8x4096x4x256_S8x4x4096x256_0_2_1_3))
    (broadcastInDim S8x4x4096x4096 ![0, 1, 2, 3] bcast_S1x4x4096x4096_S8x4x4096x4096_0_1_2_3
      (broadcastInDim S1x4x4096x4096 ![1, 2, 3] bcast_S4x4096x4096_S1x4x4096x4096_1_2_3 (weights l)))

/-- The retained values of every position and head. -/
def retained (x : FVec Ideal S32768x6144 .f32) (a : FVec Ideal S4096x128 .f32) (l : FVec Ideal S4 .f32) : FVec Ideal S8x4096x4x512 .f32 :=
  transpose S8x4096x4x512 [0, 2, 1, 3] (Host.dotGeneral dot_S8x4x4096x4096_S8x4x4096x512_S8x4x4096x512_3_2_2_3_01_01 none (scores x a l)
    (transpose S8x4x4096x512 [0, 2, 1, 3] (valuePart x) transposes_S8x4096x4x512_S8x4x4096x512_0_2_1_3)) transposes_S8x4x4096x512_S8x4096x4x512_0_2_1_3

/-- The mean of every position and head. -/
def headMean (o : FVec Ideal S8x4096x4x512 .f32) : FVec Ideal S8x4096x4x1 .f32 :=
  Host.divf (broadcastInDim S8x4096x4x1 ![0, 1, 2] bcast_S8x4096x4_S8x4096x4x1_0_1_2
      (Host.reduceAdd o (constant S_ .f32 0x00000000#32) reducesTo_S8x4096x4x512_S8x4096x4_d3 h_S_))
    (broadcastInDim S8x4096x4x1 ![] bcast_S_S8x4096x4x1 (constant S_ .f32 0x44000000#32))

/-- Every position and head minus its mean. -/
def headCentred (o : FVec Ideal S8x4096x4x512 .f32) : FVec Ideal S8x4096x4x512 .f32 :=
  subf o (broadcastInDim S8x4096x4x512 ![0, 1, 2, 3] bcast_S8x4096x4x1_S8x4096x4x512_0_1_2_3 (headMean o))

/-- The head norm, with the gains `n`. -/
def headNorm (o : FVec Ideal S8x4096x4x512 .f32) (n : FVec Ideal S2048 .f32) : FVec Ideal S8x4096x4x512 .f32 :=
  mulf (mulf (headCentred o) (broadcastInDim S8x4096x4x512 ![0, 1, 2, 3] bcast_S8x4096x4x1_S8x4096x4x512_0_1_2_3
      (Host.rsqrt (addf (headMean (mulf (headCentred o) (headCentred o)))
        (broadcastInDim S8x4096x4x1 ![] bcast_S_S8x4096x4x1 (constant S_ .f32 0x3727C5AC#32))))))
    (broadcastInDim S8x4096x4x512 ![0, 1, 2, 3] bcast_S1x1x4x512_S8x4096x4x512_0_1_2_3
      (broadcastInDim S1x1x4x512 ![2, 3] bcast_S4x512_S1x1x4x512_2_3 (shapeCast _ n shapeCasts_S2048_S4x512)))

/-- A number times its logistic function. -/
def silu (g : FVec Ideal S8x4096x2048 .f32) : FVec Ideal S8x4096x2048 .f32 :=
  mulf g (Host.divf (broadcastInDim S8x4096x2048 ![] bcast_S_S8x4096x2048 (constant S_ .f32 0x3F800000#32))
    (addf (broadcastInDim S8x4096x2048 ![] bcast_S_S8x4096x2048 (constant S_ .f32 0x3F800000#32)) (Host.exp (Host.negf g))))

/-- The retention of rows, positions and gains. -/
def retention (x : FVec Ideal S32768x6144 .f32) (pos : IVec S4096 32) (n : FVec Ideal S2048 .f32) : FVec Ideal S8x4096x2048 .bf16 :=
  truncf .bf16 (mulf (shapeCast _ (headNorm (retained x (angles pos) logDecays) n) shapeCasts_S8x4096x4x512_S8x4096x2048) (silu (gatePart x)))
    bitsLt_bf16_f32

theorem reference (m : (ℓ : Loc nD τ sig) → Buf (Elt Ideal) ℓ) (c : Dev nD) (x : FVec Ideal S32768x6144 .f32) (pos : IVec S4096 32)
    (n : FVec Ideal S2048 .f32) (h₀ : m ((c.tc : Thread nD τ).loc main_arg0) = x) (h₁ : m ((c.tc : Thread nD τ).loc main_arg1) = pos)
    (h₂ : m ((c.tc : Thread nD τ).loc main_arg2) = n) : Cert.RetRefIdeal.Value.res_main_v125 m c = retention x pos n := by
  subst h₀ h₁ h₂
  rfl

variable (x : FVec Ideal S32768x6144 .f32) (a : FVec Ideal S4096x128 .f32) (l : FVec Ideal S4 .f32)

/-- The row of a sequence's position. -/
def row (b : Fin 8) (t : Fin 4096) : Fin 32768 := ⟨b.val * 4096 + t.val, by omega⟩

/-- Feature `d` of group `j` of 256 columns, turned by its position's angles. -/
def turnedRow (b : Fin 8) (t : Fin 4096) (j : Fin 8) (d : Fin 256) : EReal :=
  if h : d.val < 128 then
    (x (ix2 (row b t) ⟨j.val * 256 + d.val, by omega⟩) : EReal) * Host.cos a (ix2 t ⟨d.val, h⟩)
      - (x (ix2 (row b t) ⟨j.val * 256 + (d.val + 128), by omega⟩) : EReal) * Host.sin a (ix2 t ⟨d.val, h⟩)
  else
    (x (ix2 (row b t) ⟨j.val * 256 + d.val, by omega⟩) : EReal) * Host.cos a (ix2 t ⟨d.val - 128, by omega⟩)
      + (x (ix2 (row b t) ⟨j.val * 256 + (d.val - 128), by omega⟩) : EReal) * Host.sin a (ix2 t ⟨d.val - 128, by omega⟩)

/-- The queries. -/
def query (b : Fin 8) (h : Fin 4) (t : Fin 4096) (d : Fin 256) : EReal := turnedRow x a b t ⟨h.val, by omega⟩ d

/-- The keys. -/
def key (b : Fin 8) (h : Fin 4) (t : Fin 4096) (d : Fin 256) : EReal :=
  turnedRow x a b t ⟨4 + h.val, by omega⟩ d * Ideal.ofBits .f32 0x3D800000#32

/-- The values. -/
def value (b : Fin 8) (h : Fin 4) (t : Fin 4096) (u : Fin 512) : EReal := x (ix2 (row b t) ⟨2048 + h.val * 512 + u.val, by omega⟩)

theorem query_part_turned (b : Fin 8) (h : Fin 4) (t : Fin 4096) (d : Fin 256) :
    (rope (queryPart x) a (ix4 b t h d) : EReal) = query x a b h t d := by
  unfold query turnedRow
  pointwise [rope, firstHalf, nextHalf, spread, queryPart, rows]
  by_cases h' : d.val < 128
  · simp only [h', ↓reduceDIte, Nat.add_comm, row]
  · simp only [h', ↓reduceDIte, show 128 + (d.val - 128) = d.val by omega, row]

theorem key_part_turned (b : Fin 8) (h : Fin 4) (t : Fin 4096) (d : Fin 256) :
    (rope (keyPart x) a (ix4 b t h d) : EReal) = turnedRow x a b t ⟨4 + h.val, by omega⟩ d := by
  unfold turnedRow
  pointwise [rope, firstHalf, nextHalf, spread, keyPart, rows]
  by_cases h' : d.val < 128
  · simp only [h', ↓reduceDIte, row, show 1024 + (h.val * 256 + d.val) = (4 + h.val) * 256 + d.val by omega,
      show 1024 + (h.val * 256 + (128 + d.val)) = (4 + h.val) * 256 + (d.val + 128) by omega]
  · simp only [h', ↓reduceDIte, row, show 1024 + (h.val * 256 + (128 + (d.val - 128))) = (4 + h.val) * 256 + d.val by omega,
      show 1024 + (h.val * 256 + (d.val - 128)) = (4 + h.val) * 256 + (d.val - 128) by omega]

theorem value_part (b : Fin 8) (h : Fin 4) (t : Fin 4096) (u : Fin 512) :
    (valuePart x (ix4 b t h u) : EReal) = value x b h t u := by
  pointwise [valuePart, rows, value, row]
  simp only [show 2048 + (h.val * 512 + u.val) = 2048 + h.val * 512 + u.val by omega]

/-- The weight of position `s` in position `t`'s output, among the extended reals. -/
def weight (g : EReal) (t s : ℕ) : EReal := if s ≤ t then Ideal.exp ((((t : ℝ) - s : ℝ) : EReal) * g) else 0

theorem weights_at (h : Fin 4) (t s : Fin 4096) : (weights l (ix3 h t s) : EReal) = weight (l (ix1 h)) t.val s.val := by
  unfold weight
  pointwise [weights, distance]
  rw [word_number t.val t.val (by omega) rfl, word_number s.val s.val (by omega) rfl, ← EReal.coe_sub]
  exact masked_exp _ t.val s.val

/-- The sum of all the values with their weighted scores. -/
def total (b : Fin 8) (h : Fin 4) (t : Fin 4096) (u : Fin 512) : EReal :=
  ∑ s : Fin 4096, ((∑ d : Fin 256, query x a b h t d * key x a b h s d) * weight (l (ix1 h)) t.val s.val) * value x b h s u

theorem retained_at (b : Fin 8) (h : Fin 4) (t : Fin 4096) (u : Fin 512) :
    (retained x a l (ix4 b t h u) : EReal) = total x a l b h t u := by
  unfold total
  pointwise [retained, scores]
  simp only [query_part_turned, key_part_turned, value_part, weights_at, key]

theorem retention_at (pos : IVec S4096 32) (n : FVec Ideal S2048 .f32) (b : Fin 8) (t : Fin 4096) (h : Fin 4) (u : Fin 512)
    (w : Fin 2048) (hw : w.val = h.val * 512 + u.val) :
    (retention x pos n (ix3 b t w) : EReal)
      = gated (total x (angles pos) logDecays b h t) (n (ix1 w)) (x (ix2 (row b t) ⟨4096 + w.val, by omega⟩)) u := by
  have w_head : w.val / 512 = h.val := by omega
  have w_value : w.val % 512 = u.val := by omega
  unfold gated meanOf Ideal.logistic
  simp only [← retained_at]
  pointwise [retention, headNorm, headCentred, headMean, silu, gatePart, rows, row]
  simp only [show (⟨w.val / 512, by omega⟩ : Fin 4) = h from Fin.ext w_head,
    show (⟨w.val % 512, by omega⟩ : Fin 512) = u from Fin.ext w_value]

end Cert.RetProof

end
-- ==== Proof.RetWindows.lean ====
/- What the retention kernel's windows hold at every point of its grid, in terms of the three arguments. -/
module

public import proofs.«01_k».proof.Proof.RetState
public import proofs.«01_k».proof.Proof.RetRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RetProof

open Cert.RetIdeal Cert.RetIdeal.Gen

variable (m : (ℓ : Loc nD τ sig) → Buf (Elt Ideal) ℓ) (c : Dev nD)

/-- The argument rows. -/
def argRows : FVec Ideal S32768x6144 .f32 := m ((c : Thread nD τ).loc main_arg0)

/-- The angles of the argument's positions. -/
def argAngles : FVec Ideal S4096x128 .f32 := angles (m ((c : Thread nD τ).loc main_arg1))

/-- The argument gains. -/
def argGains : FVec Ideal S2048 .f32 := m ((c : Thread nD τ).loc main_arg2)

set_option maxHeartbeats 1000000 in
theorem cosines_eq : V m c main_v16 = Host.cos (argAngles m c) := by
  unfold V
  simp only [hostOps0]
  after_results_simp
  rfl

set_option maxHeartbeats 1000000 in
theorem sines_eq : V m c main_v17 = Host.sin (argAngles m c) := by
  unfold V
  simp only [hostOps0]
  after_results_simp
  rfl

set_option maxHeartbeats 1000000 in
theorem rows_eq : V m c main_v18 = rows (argRows m c) := by
  unfold V
  simp only [hostOps0]
  after_results_simp
  rfl

set_option maxHeartbeats 1000000 in
theorem decays_eq : V m c main_v26 = logDecays := by
  unfold V
  simp only [hostOps0]
  after_results_simp
  rfl

set_option maxHeartbeats 1000000 in
theorem gains_eq : V m c main_v27 = shapeCast S1x2048 (argGains m c) shapeCasts_S2048_S1x2048 := by
  unfold V
  simp only [hostOps0]
  after_results_simp
  rfl

theorem idx : ∀ t : Fin cfg0.N, win0_0.index t = ![0] ∧ win0_1.index t = ![t.val / 64, t.val % 16, t.val / 16 % 4]
    ∧ win0_2.index t = ![t.val / 64, t.val % 16, 4 + t.val / 16 % 4] ∧ win0_3.index t = ![t.val / 64, t.val % 16, 4 + t.val / 16 % 4]
    ∧ win0_4.index t = ![t.val / 64, t.val % 16, 8 + t.val / 16 % 4] ∧ win0_5.index t = ![t.val % 16, 0]
    ∧ win0_6.index t = ![t.val % 16, 0] ∧ win0_7.index t = ![0, t.val / 16 % 4]
    ∧ win0_8.index t = ![t.val / 64, t.val % 16, t.val / 16 % 4] :=
  (by decide +kernel : ∀ t : Fin grid0.N, _)

variable (t : Fin cfg0.N)

theorem point_lt : t.val < 512 := t.2

/-- The sequence of point `t`. -/
def sequence : Fin 8 := ⟨t.val / 64, by have := point_lt t; omega⟩

/-- The position of row `r` of point `t`. -/
def place (r : Fin 256) : Fin 4096 := ⟨t.val % 16 * 256 + r.val, by omega⟩

theorem decay_block : logDecay m c t = logDecays (ix1 (headOf t)) := by
  unfold logDecay
  blk_simp [iblk]
  refine (congrFun (decays_eq m c) _).trans ?_
  blk_ext [idx t]

theorem query_block (r d : Fin 256) :
    iblk m c 1 t (ix3 0 r d) = argRows m c (ix2 (row (sequence t) (place t r)) ⟨(headOf t).val * 256 + d.val, by omega⟩) := by
  blk_simp [iblk]
  refine (congrFun (rows_eq m c) _).trans ?_
  pointwise [rows]
  blk_ext [idx t, row, sequence, place, headOf]

theorem key_block (r d : Fin 256) :
    iblk m c 2 t (ix3 0 r d) = argRows m c (ix2 (row (sequence t) (place t r)) ⟨(4 + (headOf t).val) * 256 + d.val, by omega⟩) := by
  blk_simp [iblk]
  refine (congrFun (rows_eq m c) _).trans ?_
  pointwise [rows]
  blk_ext [idx t, row, sequence, place, headOf]

theorem value_block (r : Fin 256) (u : Fin 512) : iblk m c 3 t (ix3 0 r u) = value (argRows m c) (sequence t) (headOf t) (place t r) u := by
  unfold value
  blk_simp [iblk]
  refine (congrFun (rows_eq m c) _).trans ?_
  pointwise [rows]
  blk_ext [idx t, row, sequence, place, headOf]

theorem gate_block (r : Fin 256) (u : Fin 512) :
    iblk m c 4 t (ix3 0 r u) = argRows m c (ix2 (row (sequence t) (place t r)) ⟨4096 + ((headOf t).val * 512 + u.val), by omega⟩) := by
  blk_simp [iblk]
  refine (congrFun (rows_eq m c) _).trans ?_
  pointwise [rows]
  blk_ext [idx t, row, sequence, place, headOf]

theorem cosine_block (r : Fin 256) (d : Fin 128) : iblk m c 5 t (ix2 r d) = Host.cos (argAngles m c) (ix2 (place t r) d) := by
  blk_simp [iblk]
  refine (congrFun (cosines_eq m c) _).trans ?_
  blk_ext [idx t, place]

theorem sine_block (r : Fin 256) (d : Fin 128) : iblk m c 6 t (ix2 r d) = Host.sin (argAngles m c) (ix2 (place t r) d) := by
  blk_simp [iblk]
  refine (congrFun (sines_eq m c) _).trans ?_
  blk_ext [idx t, place]

theorem gain_block (u : Fin 512) : iblk m c 7 t (ix2 0 u) = argGains m c (ix1 ⟨(headOf t).val * 512 + u.val, by omega⟩) := by
  blk_simp [iblk]
  refine (congrFun (gains_eq m c) _).trans ?_
  pointwise []
  blk_ext [idx t, headOf]

theorem result_index (r : Fin 256) (u : Fin 512) (a : Fin 1) :
    (((cfg0.win 8).blk t).view.emb (ix3 a r u) : S8x4096x2048.Idx)
      = ix3 (sequence t) (place t r) ⟨(headOf t).val * 512 + u.val, by omega⟩ := by
  blk_ext [idx t, sequence, place, headOf]

theorem turned_query (r d : Fin 256) :
    turned (iblk m c 5 t) (iblk m c 6 t) (iblk m c 1 t) r d = query (argRows m c) (argAngles m c) (sequence t) (headOf t) (place t r) d := by
  unfold turned query turnedRow
  simp only [query_block m c t, cosine_block m c t, sine_block m c t]

theorem turned_key (r d : Fin 256) :
    turned (iblk m c 5 t) (iblk m c 6 t) (iblk m c 2 t) r d
      = turnedRow (argRows m c) (argAngles m c) (sequence t) (place t r) ⟨4 + (headOf t).val, by omega⟩ d := by
  unfold turned turnedRow
  simp only [key_block m c t, cosine_block m c t, sine_block m c t]

end Cert.RetProof

end
-- ==== Proof.RetSum.lean ====
/- The sums of the retention over the real numbers: the decayed sum over all the positions up to one is the sum over the
   position's own chunk plus what the state kept of the chunks before. -/
module

public import Idealize.ShloMosaic.PureOps.Ideal

@[expose] public section

noncomputable section

namespace Cert.Retention

open Finset

/-- The weight of position `s` in the output of position `t`: the decay of their distance, zero where `s` lies ahead. -/
def decay (g : ℝ) (t s : ℕ) : ℝ := if s ≤ t then Real.exp (((t : ℝ) - s) * g) else 0

/-- What the state keeps of one feature of the keys and one of the values after the first `n` positions. -/
def kept (g : ℝ) (k v : ℕ → ℝ) (n : ℕ) : ℝ := ∑ s ∈ range n, k s * Real.exp (((n : ℝ) - 1 - s) * g) * v s

theorem kept_zero (g : ℝ) (k v : ℕ → ℝ) : kept g k v 0 = 0 := by simp [kept]

/-- The state after `L` more positions: the old one decayed `L` times, plus the new positions decayed to the last. -/
theorem kept_add (g : ℝ) (k v : ℕ → ℝ) (n L : ℕ) :
    kept g k v (n + L) = Real.exp (L * g) * kept g k v n
      + ∑ j ∈ range L, k (n + j) * Real.exp (((L : ℝ) - 1 - j) * g) * v (n + j) := by
  unfold kept
  rw [sum_range_add, mul_sum]
  congr 1
  · refine sum_congr rfl fun s _ => ?_
    have h : Real.exp (((n + L : ℕ) - 1 - (s : ℝ)) * g) = Real.exp (L * g) * Real.exp (((n : ℝ) - 1 - s) * g) := by
      rw [← Real.exp_add]
      push_cast
      ring_nf
    rw [h]
    ring
  · refine sum_congr rfl fun j _ => ?_
    have h : (((n + L : ℕ) : ℝ) - 1 - ((n + j : ℕ) : ℝ)) = (L : ℝ) - 1 - j := by push_cast; ring
    rw [h]

/-- The output of position `n + i`, the position `i` of a chunk of `L` after `n` positions: the sum over all `N` positions
    is the sum over the chunk plus the product with the state. -/
theorem output {D : Type} [Fintype D] (g : ℝ) (q : D → ℝ) (k : ℕ → D → ℝ) (v : ℕ → ℝ) (n L i N : ℕ) (hi : i < L)
    (hN : n + L ≤ N) :
    ∑ s ∈ range N, (∑ d, q d * k s d) * decay g (n + i) s * v s
      = ∑ j ∈ range L, (∑ d, q d * k (n + j) d) * decay g i j * v (n + j)
        + Real.exp (((i : ℝ) + 1) * g) * ∑ d, q d * kept g (fun s => k s d) v n := by
  obtain ⟨M, rfl⟩ := Nat.exists_eq_add_of_le hN
  rw [sum_range_add, sum_range_add]
  have hrest : ∑ j ∈ range M, (∑ d, q d * k (n + L + j) d) * decay g (n + i) (n + L + j) * v (n + L + j) = 0 := by
    refine sum_eq_zero fun j _ => ?_
    rw [decay, if_neg (by omega), mul_zero, zero_mul]
  rw [hrest, add_zero, add_comm]
  congr 1
  · refine sum_congr rfl fun j _ => ?_
    have h : decay g (n + i) (n + j) = decay g i j := by
      unfold decay
      by_cases hj : j ≤ i
      · rw [if_pos (by omega), if_pos hj]
        push_cast
        ring_nf
      · rw [if_neg (by omega), if_neg hj]
    rw [h]
  · unfold kept
    simp only [mul_sum, sum_mul]
    rw [sum_comm]
    refine sum_congr rfl fun d _ => sum_congr rfl fun s hs => ?_
    have hs' : s < n := mem_range.mp hs
    have h : decay g (n + i) s = Real.exp (((i : ℝ) + 1) * g) * Real.exp (((n : ℝ) - 1 - s) * g) := by
      rw [decay, if_pos (by omega), ← Real.exp_add]
      push_cast
      ring_nf
    rw [h]
    ring

/-- A sum over `n` numbers of a function of their values is a sum over a range. -/
theorem sum_fin (n : ℕ) (f : ℕ → ℝ) : ∑ i : Fin n, f i.val = ∑ i ∈ range n, f i := (sum_range f).symm

/-- A finite sum of real numbers is the real number among the extended ones. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

end Cert.Retention

end
-- ==== Proof.RetFinite.lean ====
/- The numbers of the retention over rows whose queries, keys and values are real numbers: all of them are real numbers. -/
module

public import proofs.«01_k».proof.Proof.Gen.Pre_rows_finite
public import proofs.«01_k».proof.Proof.RetRef
public import proofs.«01_k».proof.Proof.RetSum

@[expose] public section

set_option maxRecDepth 16384

noncomputable section

open Idealize.ShloMosaic Idealize.ShloMosaic.TcCoe Idealize.SL.Sem

namespace Cert.RetProof

open Cert.RetRefIdeal Cert.RetRefIdeal.Gen

/-- An extended real number that is a real number. -/
def IsReal (x : EReal) : Prop := ∃ a : ℝ, x = a

theorem IsReal.coe {x : EReal} (h : IsReal x) : ((x.toReal : ℝ) : EReal) = x := by
  obtain ⟨a, rfl⟩ := h
  rfl

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.of_abs {x : EReal} (h : max x (-x) < ⊤) : IsReal x := by
  induction x with
  | bot => exact absurd h (by simp)
  | top => exact absurd h (by simp)
  | coe a => exact ⟨a, rfl⟩

theorem ofBits_top : Ideal.ofBits .f32 0x7F800000#32 = ⊤ := by
  simp [Ideal.ofBits, Ideal.ieee]

theorem ofBits_1 : Ideal.ofBits .f32 0x3F800000#32 = ((1 : ℝ) : EReal) := by
  simp [Ideal.ofBits, Ideal.ieee]
  rw [← EReal.coe_mul]
  norm_num

theorem ofBits_2 : Ideal.ofBits .f32 0x40000000#32 = ((2 : ℝ) : EReal) := by
  simp [Ideal.ofBits, Ideal.ieee]
  rw [← EReal.coe_mul]
  norm_num

theorem ofBits_neg_5 : Ideal.ofBits .f32 0xC0A00000#32 = ((-5 : ℝ) : EReal) := by
  simp [Ideal.ofBits, Ideal.ieee]
  rw [← EReal.coe_mul]
  norm_num

theorem ofBits_256 : Ideal.ofBits .f32 0x43800000#32 = ((256 : ℝ) : EReal) := by
  simp [Ideal.ofBits, Ideal.ieee]
  rw [← EReal.coe_mul]
  norm_num

theorem ofBits_10000 : Ideal.ofBits .f32 0x461C4000#32 = ((10000 : ℝ) : EReal) := by
  simp [Ideal.ofBits, Ideal.ieee]
  rw [← EReal.coe_mul]
  norm_num

theorem ofBits_sixteenth : Ideal.ofBits .f32 0x3D800000#32 = ((1 / 16 : ℝ) : EReal) := by
  simp [Ideal.ofBits, Ideal.ieee]
  rw [← EReal.coe_mul]
  norm_num

/-- Every angle is a real number. -/
theorem angles_real (pos : IVec S4096 32) (t : Fin 4096) (d : Fin 128) : IsReal (angles pos (ix2 t d)) := by
  pointwise [angles]
  refine IsReal.mul ⟨_, rfl⟩ ?_
  rw [word_number d.val d.val (by omega) rfl, ofBits_2, ofBits_10000, ofBits_256, ← EReal.coe_mul, ← EReal.coe_neg,
    Ideal.div_coe (by norm_num), ← EReal.coe_mul, Ideal.pow_coe_coe]
  exact ⟨_, rfl⟩

/-- Every head's decay has a real logarithm. -/
theorem logDecays_real (h : Fin 4) : IsReal (logDecays (ix1 h)) := by
  pointwise [logDecays]
  rw [word_number h.val h.val (by omega) rfl, ofBits_2, ofBits_neg_5, ← EReal.coe_sub, Ideal.pow_coe_coe, ← EReal.coe_one, ← EReal.coe_sub,
    Ideal.log_coe, if_neg]
  · exact ⟨_, rfl⟩
  · have e : (2 : ℝ).rpow (-5 - (h.val : ℝ)) < 1 :=
      Real.rpow_lt_one_of_one_lt_of_neg (by norm_num) (by linarith [Nat.cast_nonneg (α := ℝ) h.val])
    linarith

/-- The rows' queries, keys and values are real numbers. -/
def RowsReal (x : FVec Ideal S32768x6144 .f32) : Prop := ∀ (r : Fin 32768) (j : Fin 6144), j.val < 4096 → IsReal (x (ix2 r j))

/-- That is what the precondition says. -/
theorem rows_real [Cert.Pre_rows_finite.Facts] (x : FVec Ideal S32768x6144 .f32) (pos : IVec S4096 32) (n : FVec Ideal S2048 .f32)
    (h : Cert.Pre_rows_finite.fn (F := Ideal) x pos n = fun _ => 1) : RowsReal x := by
  intro r j hj
  have e := congrFun h (ix2 r ⟨j.val, hj⟩)
  pointwise [Cert.Pre_rows_finite.fn] at e
  rw [ofBits_top] at e
  refine IsReal.of_abs ?_
  by_contra hn
  have hd : decide (FloatOps.absf (F := Ideal) (φ := .f32) (x (ix2 r j)) < ⊤) = false := decide_eq_false hn
  rw [hd] at e
  exact absurd e (by decide)

variable (x : FVec Ideal S32768x6144 .f32) (a : FVec Ideal S4096x128 .f32) (hx : RowsReal x) (ha : ∀ t d, IsReal (a (ix2 t d)))
include hx ha

theorem turnedRow_real (b : Fin 8) (t : Fin 4096) (j : Fin 8) (d : Fin 256) : IsReal (turnedRow x a b t j d) := by
  have hc : ∀ d, IsReal (Host.cos a (ix2 t d)) := fun d => by
    obtain ⟨r, e⟩ := ha t d
    exact ⟨Real.cos r, (congrArg Ideal.cos e).trans (Ideal.cos_coe r)⟩
  have hs : ∀ d, IsReal (Host.sin a (ix2 t d)) := fun d => by
    obtain ⟨r, e⟩ := ha t d
    exact ⟨Real.sin r, (congrArg Ideal.sin e).trans (Ideal.sin_coe r)⟩
  unfold turnedRow
  split
  · exact ((hx _ _ (by simp only; omega)).mul (hc _)).sub ((hx _ _ (by simp only; omega)).mul (hs _))
  · exact ((hx _ _ (by simp only; omega)).mul (hc _)).add ((hx _ _ (by simp only; omega)).mul (hs _))

theorem query_real (b : Fin 8) (h : Fin 4) (t : Fin 4096) (d : Fin 256) : IsReal (query x a b h t d) :=
  turnedRow_real x a hx ha b t _ d

theorem key_real (b : Fin 8) (h : Fin 4) (t : Fin 4096) (d : Fin 256) : IsReal (key x a b h t d) :=
  (turnedRow_real x a hx ha b t _ d).mul ⟨_, ofBits_sixteenth⟩

omit ha in
theorem value_real (b : Fin 8) (h : Fin 4) (t : Fin 4096) (u : Fin 512) : IsReal (value x b h t u) :=
  hx _ _ (by simp only; omega)

end Cert.RetProof

end
-- ==== Proof.RetValue.lean ====
/- What the retention kernel leaves in its result array: at every chunk the state holds what the direct sum keeps of the
   positions before, so the chunk's output is the direct sum's, and the head norm and the gate meet the same numbers. -/
module

public import proofs.«01_k».proof.Proof.RetWindows
public import proofs.«01_k».proof.Proof.RetFinite

@[expose] public section

set_option maxRecDepth 16384

noncomputable section

open Idealize.ShloMosaic Idealize.ShloMosaic.TcCoe Idealize.SL.Sem
open Idealize.ShloMosaic.Pipeline (Dat)
open Cert.Retention

namespace Cert.RetProof

open Cert.RetIdeal Cert.RetIdeal.Gen

variable (m : (ℓ : Loc nD τ sig) → Buf (Elt Ideal) ℓ) (c : Dev nD)

/-- The real logarithm of a head's decay. -/
def rate (h : Fin 4) : ℝ := (logDecays (ix1 h) : EReal).toReal

theorem rate_coe (h : Fin 4) : ((rate h : ℝ) : EReal) = logDecays (ix1 h) := (logDecays_real h).coe

/-- The real queries. -/
def queryReal (b : Fin 8) (h : Fin 4) (t : Fin 4096) (d : Fin 256) : ℝ := (query (argRows m c) (argAngles m c) b h t d).toReal

/-- The real keys, position by position. -/
def keyReal (b : Fin 8) (h : Fin 4) (s : ℕ) (d : Fin 256) : ℝ :=
  if hs : s < 4096 then (key (argRows m c) (argAngles m c) b h ⟨s, hs⟩ d).toReal else 0

/-- The real values, position by position. -/
def valueReal (b : Fin 8) (h : Fin 4) (u : Fin 512) (s : ℕ) : ℝ :=
  if hs : s < 4096 then (value (argRows m c) b h ⟨s, hs⟩ u).toReal else 0

section real

variable (hx : RowsReal (argRows m c))
include hx

theorem query_coe (b : Fin 8) (h : Fin 4) (t : Fin 4096) (d : Fin 256) :
    query (argRows m c) (argAngles m c) b h t d = ((queryReal m c b h t d : ℝ) : EReal) :=
  (query_real _ _ hx (angles_real _) b h t d).coe.symm

theorem key_coe (b : Fin 8) (h : Fin 4) (t : Fin 4096) (d : Fin 256) :
    key (argRows m c) (argAngles m c) b h t d = ((keyReal m c b h t.val d : ℝ) : EReal) := by
  unfold keyReal
  rw [dif_pos t.2]
  exact (key_real _ _ hx (angles_real _) b h t d).coe.symm

theorem value_coe (b : Fin 8) (h : Fin 4) (t : Fin 4096) (u : Fin 512) :
    value (argRows m c) b h t u = ((valueReal m c b h u t.val : ℝ) : EReal) := by
  unfold valueReal
  rw [dif_pos t.2]
  exact (value_real _ hx b h t u).coe.symm

theorem weight_coe (h : Fin 4) (t s : ℕ) : weight (logDecays (ix1 h)) t s = ((decay (rate h) t s : ℝ) : EReal) := by
  unfold weight decay
  rw [← rate_coe]
  split
  · rw [← EReal.coe_mul, Ideal.exp_coe]
  · exact EReal.coe_zero.symm

/-- The direct sum is a real number's. -/
theorem total_coe (b : Fin 8) (h : Fin 4) (t : Fin 4096) (u : Fin 512) :
    total (argRows m c) (argAngles m c) logDecays b h t u
      = ((∑ s ∈ Finset.range 4096, (∑ d, queryReal m c b h t d * keyReal m c b h s d) * decay (rate h) t.val s
          * valueReal m c b h u s : ℝ) : EReal) := by
  unfold total
  simp only [query_coe m c hx, key_coe m c hx, value_coe m c hx, weight_coe m c hx, ← EReal.coe_mul, coe_sum]
  exact congrArg _ (sum_fin 4096 fun s => (∑ d, queryReal m c b h t d * keyReal m c b h s d) * decay (rate h) t.val s * valueReal m c b h u s)

variable (t : Fin cfg0.N)

/-- The number of positions before point `t`'s chunk. -/
def before : ℕ := t.val % 16 * 256

omit hx in
theorem logDecay_coe : logDecay m c t = ((rate (headOf t) : ℝ) : EReal) := (decay_block m c t).trans (rate_coe _).symm

theorem queries_coe (r d : Fin 256) :
    (queries m c t (ix2 r d) : EReal) = ((queryReal m c (sequence t) (headOf t) (place t r) d : ℝ) : EReal) := by
  rw [← query_coe m c hx, ← turned_query]
  exact queries_at _ _ _ r d

theorem keys_coe (r d : Fin 256) :
    (keys m c t (ix2 r d) : EReal) = ((keyReal m c (sequence t) (headOf t) (before t + r.val) d : ℝ) : EReal) := by
  refine Eq.trans ?_ (key_coe m c hx (sequence t) (headOf t) (place t r) d)
  unfold key
  rw [← turned_key]
  exact keys_at _ _ _ r d

theorem values_coe (r : Fin 256) (u : Fin 512) :
    (values m c t (ix2 r u) : EReal) = ((valueReal m c (sequence t) (headOf t) u (before t + r.val) : ℝ) : EReal) := by
  refine Eq.trans ?_ (value_coe m c hx (sequence t) (headOf t) (place t r) u)
  rw [← value_block]
  exact values_at _ r u

/-- What the direct sum keeps of the first `n` positions. -/
def keptReal (b : Fin 8) (h : Fin 4) (n : ℕ) (d : Fin 256) (u : Fin 512) : ℝ :=
  kept (rate h) (fun s => keyReal m c b h s d) (valueReal m c b h u) n

/-- A state that holds what the direct sum keeps of the positions before the point's chunk. -/
def Holds (n : ℕ) (s : Vec Ideal S256x512 .f32) : Prop :=
  ∀ d u, s (ix2 d u) = ((keptReal m c (sequence t) (headOf t) n d u : ℝ) : EReal)

/-- The point's chunk added. -/
theorem next_holds (s : Vec Ideal S256x512 .f32) (hs : Holds m c t (before t) s) : Holds m c t (before t + 256) (next m c t s) := by
  intro d u
  refine (state_at _ _ _ _ _ _ _).trans ?_
  have hd : ∀ j : Fin 256, firstColumn (down m c t) (ix2 j 0) = ((Real.exp ((256 - 1 - j.val) * rate (headOf t)) : ℝ) : EReal) := fun j => by
    refine (down_at _ _ _).trans ?_
    rw [logDecay_coe, ← EReal.coe_mul, Ideal.exp_coe]
    norm_num
  rw [hs d u, logDecay_coe, ofBits_256, ← EReal.coe_mul, Ideal.exp_coe, ← EReal.coe_mul]
  simp only [hd, keys_coe m c hx t, values_coe m c hx t, ← EReal.coe_mul, coe_sum, ← EReal.coe_add]
  unfold keptReal
  rw [kept_add]
  refine congrArg _ (congrArg₂ (· + ·) (by norm_num) ?_)
  exact sum_fin 256 fun j => keyReal m c (sequence t) (headOf t) (before t + j) d * Real.exp ((((256 : ℕ) : ℝ) - 1 - j) * rate (headOf t))
    * valueReal m c (sequence t) (headOf t) u (before t + j)

/-- The chunk's output is the direct sum. -/
theorem output_total (s : Vec Ideal S256x512 .f32) (hs : Holds m c t (before t) s) (r : Fin 256) (u : Fin 512) :
    outAt (keys m c t) (queries m c t) (values m c t) s (mask m c t) (firstColumn (up m c t)) r u
      = total (argRows m c) (argAngles m c) logDecays (sequence t) (headOf t) (place t r) u := by
  have hm : ∀ j : Fin 256, (mask m c t (ix2 r j) : EReal) = ((decay (rate (headOf t)) r.val j.val : ℝ) : EReal) := fun j => by
    rw [← weight_coe m c hx, ← decay_block m c t]
    exact mask_at _ r j
  have hu : firstColumn (up m c t) (ix2 r 0) = ((Real.exp ((r.val + 1) * rate (headOf t)) : ℝ) : EReal) := by
    refine (up_at _ _ _).trans ?_
    rw [logDecay_coe, ← EReal.coe_mul, Ideal.exp_coe]
    rfl
  unfold outAt
  rw [total_coe m c hx]
  simp only [hm, hu, hs _ u, queries_coe m c hx t, keys_coe m c hx t, values_coe m c hx t, ← EReal.coe_mul, coe_sum, ← EReal.coe_add]
  refine congrArg _ (Eq.symm ?_)
  have hn : before t + 256 ≤ 4096 := by unfold before; omega
  refine (output (rate (headOf t)) (queryReal m c (sequence t) (headOf t) (place t r)) (keyReal m c (sequence t) (headOf t))
    (valueReal m c (sequence t) (headOf t) u) (before t) 256 r.val 4096 r.2 hn).trans ?_
  refine congrArg₂ (· + ·) ?_ rfl
  exact (sum_fin 256 fun j => (∑ d, queryReal m c (sequence t) (headOf t) (place t r) d * keyReal m c (sequence t) (headOf t) (before t + j) d)
    * decay (rate (headOf t)) r.val j * valueReal m c (sequence t) (headOf t) u (before t + j)).symm

/-- The block of the result that the point writes is the reference's. -/
theorem block_result (s : Vec Ideal S256x512 .f32) (hs : Holds m c t (before t) s) (a : Fin 1) (r : Fin 256) (u : Fin 512) :
    (block m c t s (ix3 a r u) : EReal)
      = retention (argRows m c) (m ((c : Thread nD τ).loc main_arg1)) (argGains m c)
          (ix3 (sequence t) (place t r) ⟨(headOf t).val * 512 + u.val, by omega⟩) := by
  refine (block_at _ _ _ _ _ _ _ _ a r u).trans ?_
  refine Eq.trans ?_ (retention_at (argRows m c) (m ((c : Thread nD τ).loc main_arg1)) (argGains m c) (sequence t) (place t r) (headOf t) u
    ⟨(headOf t).val * 512 + u.val, by omega⟩ rfl).symm
  rw [gain_block m c t u, gate_block m c t r u]
  exact congrArg (fun o => gated o _ _ u) (funext fun u => output_total m c hx t s hs r u)

end real

/-- At every point the mask and the two factors are those of the point's head. -/
theorem factors (n : ℕ) (hn : n < cfg0.N) : (outsAt0 m c n hn).2.2.1 = mask m c ⟨n, hn⟩ ∧ (outsAt0 m c n hn).2.2.2.1 = up m c ⟨n, hn⟩
    ∧ (outsAt0 m c n hn).2.2.2.2 = down m c ⟨n, hn⟩ := by
  induction n using Nat.strong_induction_on with
  | _ n ih =>
    by_cases h : n % 16 = 0
    · exact ⟨first_mask m c ⟨n, hn⟩ h, first_up m c ⟨n, hn⟩ h, first_down m c ⟨n, hn⟩ h⟩
    · obtain ⟨e₁, e₂, e₃⟩ := ih (n - 1) (by omega) (before_lt ⟨n, hn⟩ h)
      have e : logDecay m c ⟨n - 1, before_lt ⟨n, hn⟩ h⟩ = logDecay m c ⟨n, hn⟩ := by
        rw [decay_block, decay_block]
        exact congrArg (fun i => logDecays (ix1 i)) (Fin.ext (by simp only [headOf]; omega))
      refine ⟨(later_mask m c ⟨n, hn⟩ h).trans (e₁.trans ?_), (later_up m c ⟨n, hn⟩ h).trans (e₂.trans ?_),
        (later_down m c ⟨n, hn⟩ h).trans (e₃.trans ?_)⟩
      · unfold mask; rw [e]
      · unfold up; rw [e]
      · unfold down; rw [e]

section final

variable (hx : RowsReal (argRows m c))
include hx

/-- At the first chunk the state starts at zero. -/
theorem zero_holds (t : Fin cfg0.N) (h : t.val % 16 = 0) : Holds m c t (before t) (k0_pay2 (F := Ideal)) := by
  intro d u
  refine (zero_at _).trans ?_
  unfold before keptReal
  rw [h, Nat.zero_mul, kept_zero, EReal.coe_zero]

/-- At every point the state holds what the direct sum keeps up to the end of its chunk. -/
theorem state_holds (n : ℕ) (hn : n < cfg0.N) : Holds m c ⟨n, hn⟩ (before ⟨n, hn⟩ + 256) (outsAt0 m c n hn).2.1 := by
  induction n using Nat.strong_induction_on with
  | _ n ih =>
    by_cases h : n % 16 = 0
    · rw [first_state m c ⟨n, hn⟩ h]
      exact next_holds m c hx ⟨n, hn⟩ _ (zero_holds m c hx ⟨n, hn⟩ h)
    · rw [later_state m c ⟨n, hn⟩ h ((later_down m c ⟨n, hn⟩ h).symm.trans (factors m c n hn).2.2)]
      refine next_holds m c hx ⟨n, hn⟩ _ ?_
      have e := ih (n - 1) (by omega) (before_lt ⟨n, hn⟩ h)
      have e₁ : sequence ⟨n - 1, before_lt ⟨n, hn⟩ h⟩ = sequence ⟨n, hn⟩ := Fin.ext (by simp only [sequence]; omega)
      have e₂ : headOf ⟨n - 1, before_lt ⟨n, hn⟩ h⟩ = headOf ⟨n, hn⟩ := Fin.ext (by simp only [headOf]; omega)
      have e₃ : before ⟨n - 1, before_lt ⟨n, hn⟩ h⟩ + 256 = before ⟨n, hn⟩ := by simp only [before]; omega
      intro d u
      rw [← e₁, ← e₂, ← e₃]
      exact e d u

/-- The block that every point writes is the reference's. -/
theorem point_result (t : Fin cfg0.N) (a : Fin 1) (r : Fin 256) (u : Fin 512) :
    ((outsAt0 m c t.val t.isLt).1 (ix3 a r u) : EReal)
      = retention (argRows m c) (m ((c : Thread nD τ).loc main_arg1)) (argGains m c)
          (ix3 (sequence t) (place t r) ⟨(headOf t).val * 512 + u.val, by omega⟩) := by
  by_cases h : t.val % 16 = 0
  · rw [first_block m c t h]
    exact block_result m c hx t _ (zero_holds m c hx t h) a r u
  · rw [later_block m c t h ((later_mask m c t h).symm.trans (factors m c t.val t.isLt).1)
      ((later_up m c t h).symm.trans (factors m c t.val t.isLt).2.1)]
    refine block_result m c hx t _ ?_ a r u
    have e := state_holds m c hx (t.val - 1) (before_lt t h)
    have e₁ : sequence ⟨t.val - 1, before_lt t h⟩ = sequence t := Fin.ext (by simp only [sequence]; omega)
    have e₂ : headOf ⟨t.val - 1, before_lt t h⟩ = headOf t := Fin.ext (by simp only [headOf]; omega)
    have e₃ : before ⟨t.val - 1, before_lt t h⟩ + 256 = before t := by simp only [before]; omega
    intro d u
    rw [← e₁, ← e₂, ← e₃]
    exact e d u

/-- The result array. -/
def result : FVec Ideal S8x4096x2048 .bf16 := retention (argRows m c) (m ((c : Thread nD τ).loc main_arg1)) (argGains m c)

theorem final : (dats m 0 c).arrAt 8 (cfgs 0).N = result m c := by
  refine (dats m 0 c).arrAt_eq_of_covers 8 _ (by decide +kernel) fun t _ y => ?_
  blk_simp
  rw [after0_8]
  idx_vars y
  exact (point_result m c hx t y0 y1 y2).trans (congrArg (result m c) (result_index t y1 y2 y0)).symm

end final

end Cert.RetProof

end
-- ==== Proof.RetClaims.lean ====
/- The five claims about the call Ret, the retention. -/
module

public import proofs.«01_k».proof.Defs
public import proofs.«01_k».proof.Proof.Gen.Ret.Frame
public import proofs.«01_k».proof.Proof.Gen.Pre_rows_finite
public import proofs.«01_k».proof.Proof.RetValue

@[expose] public section

set_option maxRecDepth 16384

noncomputable section

namespace Cert.RetProof

open Idealize.ShloMosaic Idealize.SL.Sem

attribute [local instance] Cert.Ret.Gen.facts Cert.RetIdeal.Gen.facts Cert.RetRefIdeal.Gen.facts Cert.Pre_rows_finite.Gen.facts

theorem frame_kernel : Cert.quiescent_Ret := fun m ρ _ => Cert.Ret.Gen.frame m ρ

theorem frame_ideal : Cert.quiescent_RetIdeal := fun m ρ _ => Cert.RetIdeal.Gen.frame m ρ

/-- The reference is host operations only, and declares no semaphore. -/
theorem frame_reference : Cert.quiescent_RetRefIdeal := fun m ρ _ =>
  (θ_run Cert.RetRefIdeal.defs _ _).mono
    (fun r h => ⟨fun c => (h c).2, sem_eq_zero_of_no_sems (by decide) r.2⟩)
    (Cert.RetRefIdeal.Value.run (F := Ideal) m ρ)

/-- Both run whatever the rows hold, so under the precondition too. -/
theorem frame_ideal_finite : Cert.quiescent_RetIdeal_pre_rows_finite := fun m ρ _ => frame_ideal m ρ trivial

theorem frame_reference_finite : Cert.quiescent_RetRefIdeal_pre_rows_finite := fun m ρ _ => frame_reference m ρ trivial

/-- The idealized kernel is the kernel with no rewrite applied. -/
theorem preserved : Cert.preserves_Ret_RetIdeal := trivial

set_option maxHeartbeats 4000000 in
/-- Over rows whose queries, keys and values are finite, the kernel's result array is the reference's term over the same
    arguments. -/
theorem equal : Cert.algebraic_RetIdeal_RetRefIdeal_pre_rows_finite := by
  pair_intro
  · run_from Cert.RetIdeal.Gen.run_main m g
  · run_from Cert.RetRefIdeal.Value.run (F := Ideal) m' g'
    exact (Cert.RetProof.reference m' c _ _ _ (hagree c).1 (hagree c).2.1 (hagree c).2.2).trans
      (Cert.RetProof.final m c (Cert.RetProof.rows_real _ _ _ (hpre c))).symm

end Cert.RetProof

end
-- ==== Proof.lean ====
/- The claims of this certificate, each proved in the module of its call. -/
module

public import proofs.«01_k».proof.Defs
public import proofs.«01_k».proof.Proof.Gen.ProjCIdeal.Value
public import proofs.«01_k».proof.Proof.Gen.ProjCRefIdeal.Run
public import proofs.«01_k».proof.Proof.Gen.ProjBIdeal.Value
public import proofs.«01_k».proof.Proof.Gen.ProjBRefIdeal.Run
public import proofs.«01_k».proof.Proof.Gen.ProjAIdeal.Value
public import proofs.«01_k».proof.Proof.Gen.ProjARefIdeal.Run
public import proofs.«01_k».proof.Proof.Gen.OutIdeal.Value
public import proofs.«01_k».proof.Proof.Gen.OutRefIdeal.Run
public import proofs.«01_k».proof.Proof.Gen.OutCIdeal.Value
public import proofs.«01_k».proof.Proof.Gen.OutCRefIdeal.Run
public import proofs.«01_k».proof.Proof.Gen.RouteIdeal.Value
public import proofs.«01_k».proof.Proof.Gen.RouteRefIdeal.Run
public import proofs.«01_k».proof.Proof.Gen.GatesIdeal.Value
public import proofs.«01_k».proof.Proof.Gen.GatesRefIdeal.Run
public import proofs.«01_k».proof.Proof.Gen.CombineIdeal.Value
public import proofs.«01_k».proof.Proof.Gen.CombineRefIdeal.Run
public import proofs.«01_k».proof.Proof.Gen.Pre_rows_finite
public import proofs.«01_k».proof.Proof.ProjCClaims
public import proofs.«01_k».proof.Proof.ProjBClaims
public import proofs.«01_k».proof.Proof.ProjAClaims
public import proofs.«01_k».proof.Proof.OutClaims
public import proofs.«01_k».proof.Proof.OutCClaims
public import proofs.«01_k».proof.Proof.RouteClaims
public import proofs.«01_k».proof.Proof.GatesClaims
public import proofs.«01_k».proof.Proof.CombineClaims
public import proofs.«01_k».proof.Proof.ExpertsClaims
public import proofs.«01_k».proof.Proof.RetClaims

@[expose] public section

noncomputable section

namespace Cert.Proof

theorem claim : Cert.Claim := ⟨Cert.ProjC.Gen.facts, Cert.ProjCIdeal.Gen.facts, Cert.ProjCRefIdeal.Gen.facts, Cert.ProjB.Gen.facts, Cert.ProjBIdeal.Gen.facts, Cert.ProjBRefIdeal.Gen.facts, Cert.ProjA.Gen.facts, Cert.ProjAIdeal.Gen.facts, Cert.ProjARefIdeal.Gen.facts, Cert.Out.Gen.facts, Cert.OutIdeal.Gen.facts, Cert.OutRefIdeal.Gen.facts, Cert.OutC.Gen.facts, Cert.OutCIdeal.Gen.facts, Cert.OutCRefIdeal.Gen.facts, Cert.Route.Gen.facts, Cert.RouteIdeal.Gen.facts, Cert.RouteRefIdeal.Gen.facts, Cert.Gates.Gen.facts, Cert.GatesIdeal.Gen.facts, Cert.GatesRefIdeal.Gen.facts, Cert.Combine.Gen.facts, Cert.CombineIdeal.Gen.facts, Cert.CombineRefIdeal.Gen.facts, Cert.Experts.Gen.facts, Cert.ExpertsIdeal.Gen.facts, Cert.ExpertsRefIdeal.Gen.facts, Cert.Ret.Gen.facts, Cert.RetIdeal.Gen.facts, Cert.RetRefIdeal.Gen.facts, Cert.Pre_experts_named.Gen.facts, Cert.Pre_rows_finite.Gen.facts,
  Cert.ProjCProof.frame_kernel, Cert.ProjCProof.frame_ideal, Cert.ProjCProof.frame_reference,
  Cert.ProjBProof.frame_kernel, Cert.ProjBProof.frame_ideal, Cert.ProjBProof.frame_reference,
  Cert.ProjAProof.frame_kernel, Cert.ProjAProof.frame_ideal, Cert.ProjAProof.frame_reference,
  Cert.OutProof.frame_kernel, Cert.OutProof.frame_ideal, Cert.OutProof.frame_reference,
  Cert.OutCProof.frame_kernel, Cert.OutCProof.frame_ideal, Cert.OutCProof.frame_reference,
  Cert.RouteProof.frame_kernel, Cert.RouteProof.frame_ideal, Cert.RouteProof.frame_reference,
  Cert.GatesProof.frame_kernel, Cert.GatesProof.frame_ideal, Cert.GatesProof.frame_reference,
  Cert.CombineProof.frame_kernel, Cert.CombineProof.frame_ideal, Cert.CombineProof.frame_reference,
  Cert.ExpertsProof.frame_kernel, Cert.ExpertsProof.frame_ideal, Cert.ExpertsProof.frame_reference, Cert.ExpertsProof.frame_reference_named,
  Cert.RetProof.frame_kernel, Cert.RetProof.frame_ideal, Cert.RetProof.frame_ideal_finite, Cert.RetProof.frame_reference, Cert.RetProof.frame_reference_finite,
  Cert.ProjCProof.preserved, Cert.ProjCProof.equal,
  Cert.ProjBProof.preserved, Cert.ProjBProof.equal,
  Cert.ProjAProof.preserved, Cert.ProjAProof.equal,
  Cert.OutProof.preserved, Cert.OutProof.equal,
  Cert.OutCProof.preserved, Cert.OutCProof.equal,
  Cert.RouteProof.preserved, Cert.RouteProof.equal,
  Cert.GatesProof.preserved, Cert.GatesProof.equal,
  Cert.CombineProof.preserved, Cert.CombineProof.equal,
  Cert.ExpertsProof.preserved, Cert.ExpertsProof.equal,
  Cert.RetProof.preserved, Cert.RetProof.equal⟩

end Cert.Proof

end
